-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_w" .f32 0x39B60B61#32 ((1 / 2880 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x6x2048x2880 : Shape := ⟨4, ![8, 6, 2048, 2880]⟩
abbrev S8x6x2048 : Shape := ⟨3, ![8, 6, 2048]⟩
abbrev S2880 : Shape := ⟨1, ![2880]⟩
abbrev S6x2048x2880 : Shape := ⟨3, ![6, 2048, 2880]⟩
abbrev S_ : Shape := ⟨0, ![]⟩

class Facts : Prop where
  bcast_S_S2880 : S_.BroadcastsInDim S2880 (![] : Fin 0 → Fin S2880.rank)
  reducesTo_S2880_S_d0 : S2880.ReducesTo [0] S_
  h_S_ : 0 < S_.numel

variable [Facts]

def fn {F : FTy → Type} [FloatOps F] (main_arg0 : FVec F S8x6x2048x2880 .fp8e4m3) (main_arg1 : FVec F S8x6x2048 .f32) (main_arg2 : FVec F S2880 .f32) (main_arg3 : FVec F S6x2048x2880 .bf16) (main_arg4 : FVec F S2880 .f32) (main_arg5 : FVec F S2880 .f32) : IVec S_ 1 :=
  let main_v0 : FVec F S2880 .f32 := Host.absf main_arg4
  let main_cst : FVec F S_ .f32 := constant S_ .f32 0x7F7FFFFF#32
  let main_v1 : FVec F S2880 .f32 := broadcastInDim S2880 ![] bcast_S_S2880 main_cst
  let main_v2 : IVec S2880 1 := cmpf .ole main_v0 main_v1
  let main_c : IVec S_ 1 := constantI S_ 1 1#1
  let main_v3 : IVec S_ 1 := (fun x v => Host.reduce IntOp.andi x v reducesTo_S2880_S_d0 h_S_) main_v2 main_c
  let main_v4 : FVec F S2880 .f32 := Host.absf main_arg5
  let main_cst_0 : FVec F S_ .f32 := constant S_ .f32 0x7F7FFFFF#32
  let main_v5 : FVec F S2880 .f32 := broadcastInDim S2880 ![] bcast_S_S2880 main_cst_0
  let main_v6 : IVec S2880 1 := cmpf .ole main_v4 main_v5
  let main_c_1 : IVec S_ 1 := constantI S_ 1 1#1
  let main_v7 : IVec S_ 1 := (fun x v => Host.reduce IntOp.andi x v reducesTo_S2880_S_d0 h_S_) main_v6 main_c_1
  let main_v8 : IVec S_ 1 := andi main_v3 main_v7
  main_v8
-- ==== Kernel.lean ====
abbrev S8x6x2048x2880 : Shape := ⟨4, ![8, 6, 2048, 2880]⟩
abbrev S8x6x2048 : Shape := ⟨3, ![8, 6, 2048]⟩
abbrev S2880 : Shape := ⟨1, ![2880]⟩
abbrev S6x2048x2880 : Shape := ⟨3, ![6, 2048, 2880]⟩
abbrev S1x2880 : Shape := ⟨2, ![1, 2880]⟩
abbrev S6x2048 : Shape := ⟨2, ![6, 2048]⟩
abbrev S8x6x128 : Shape := ⟨3, ![8, 6, 128]⟩
abbrev S8x1x128x2880 : Shape := ⟨4, ![8, 1, 128, 2880]⟩
abbrev S1x128x2880 : Shape := ⟨3, ![1, 128, 2880]⟩
abbrev S6x128 : Shape := ⟨2, ![6, 128]⟩
abbrev S128x2880 : Shape := ⟨2, ![128, 2880]⟩
abbrev S1x1x128 : Shape := ⟨3, ![1, 1, 128]⟩
abbrev S1x128 : Shape := ⟨2, ![1, 128]⟩
abbrev S32x256 : Shape := ⟨2, ![32, 256]⟩
abbrev S32x128 : Shape := ⟨2, ![32, 128]⟩
abbrev S1x32 : Shape := ⟨2, ![1, 32]⟩
abbrev S1x256 : Shape := ⟨2, ![1, 256]⟩
abbrev S32x1 : Shape := ⟨2, ![32, 1]⟩
abbrev S8x1x32x256 : Shape := ⟨4, ![8, 1, 32, 256]⟩
abbrev S8x32x256 : Shape := ⟨3, ![8, 32, 256]⟩
abbrev S256x256 : Shape := ⟨2, ![256, 256]⟩
abbrev S1x32x256 : Shape := ⟨3, ![1, 32, 256]⟩
abbrev S8x1x32x64 : Shape := ⟨4, ![8, 1, 32, 64]⟩
abbrev S8x32x64 : Shape := ⟨3, ![8, 32, 64]⟩
abbrev S256x64 : Shape := ⟨2, ![256, 64]⟩
abbrev S32x64 : Shape := ⟨2, ![32, 64]⟩
abbrev S1x64 : Shape := ⟨2, ![1, 64]⟩
abbrev S1x32x64 : Shape := ⟨3, ![1, 32, 64]⟩
abbrev S32 : Shape := ⟨1, ![32]⟩
abbrev S128 : Shape := ⟨1, ![128]⟩

abbrev nBuf : Space → Nat
  | .hbm => 12
  | .vmem => 16
  | .smem => 0
  | _ => 0

abbrev bufTy : (tb : Table) → Fin (tcTables nBuf tb) → BufTy
  | .hbm, ⟨0, _⟩ => ⟨S8x6x2048x2880, .fp8e4m3⟩
  | .hbm, ⟨1, _⟩ => ⟨S8x6x2048, .f32⟩
  | .hbm, ⟨2, _⟩ => ⟨S2880, .f32⟩
  | .hbm, ⟨3, _⟩ => ⟨S6x2048x2880, .bf16⟩
  | .hbm, ⟨4, _⟩ => ⟨S2880, .f32⟩
  | .hbm, ⟨5, _⟩ => ⟨S2880, .f32⟩
  | .hbm, ⟨6, _⟩ => ⟨S1x2880, .f32⟩
  | .hbm, ⟨7, _⟩ => ⟨S1x2880, .f32⟩
  | .hbm, ⟨8, _⟩ => ⟨S1x2880, .f32⟩
  | .hbm, ⟨9, _⟩ => ⟨S6x2048x2880, .bf16⟩
  | .hbm, ⟨10, _⟩ => ⟨S6x2048x2880, .fp8e4m3⟩
  | .hbm, ⟨11, _⟩ => ⟨S6x2048, .f32⟩
  | .local _ .vmem, ⟨0, _⟩ => ⟨S8x6x128, .f32⟩
  | .local _ .vmem, ⟨1, _⟩ => ⟨S8x6x128, .f32⟩
  | .local _ .vmem, ⟨2, _⟩ => ⟨S8x1x128x2880, .fp8e4m3⟩
  | .local _ .vmem, ⟨3, _⟩ => ⟨S8x1x128x2880, .fp8e4m3⟩
  | .local _ .vmem, ⟨4, _⟩ => ⟨S1x128x2880, .bf16⟩
  | .local _ .vmem, ⟨5, _⟩ => ⟨S1x128x2880, .bf16⟩
  | .local _ .vmem, ⟨6, _⟩ => ⟨S1x2880, .f32⟩
  | .local _ .vmem, ⟨7, _⟩ => ⟨S1x2880, .f32⟩
  | .local _ .vmem, ⟨8, _⟩ => ⟨S1x2880, .f32⟩
  | .local _ .vmem, ⟨9, _⟩ => ⟨S1x128x2880, .bf16⟩
  | .local _ .vmem, ⟨10, _⟩ => ⟨S1x128x2880, .bf16⟩
  | .local _ .vmem, ⟨11, _⟩ => ⟨S1x128x2880, .fp8e4m3⟩
  | .local _ .vmem, ⟨12, _⟩ => ⟨S1x128x2880, .fp8e4m3⟩
  | .local _ .vmem, ⟨13, _⟩ => ⟨S6x128, .f32⟩
  | .local _ .vmem, ⟨14, _⟩ => ⟨S6x128, .f32⟩
  | .local _ .vmem, ⟨15, _⟩ => ⟨S128x2880, .f32⟩
  | _, _ => ⟨S8x6x2048x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 6], ![false, false]⟩

def k0_off1 (i : grid0.Coords) : Fin 3 → Nat :=
  let c0 : Index := 0#32
  let arg1 : BitVec 32 := BitVec.ofNat 32 (i 1).val
  let v0 : Index := Scalar.indexCast arg1
  let c0_0 : Index := 0#32
  ![0, v0.toNat, 0]
def k0_off2 (i : grid0.Coords) : Fin 3 → Nat :=
  let c1 : Index := 1#32
  let arg1 : BitVec 32 := BitVec.ofNat 32 (i 1).val
  let v3 : Index := Scalar.indexCast arg1
  let c0_1 : Index := 0#32
  ![1, v3.toNat, 0]
def k0_off3 (i : grid0.Coords) : Fin 3 → Nat :=
  let c2 : Index := 2#32
  let arg1 : BitVec 32 := BitVec.ofNat 32 (i 1).val
  let v6 : Index := Scalar.indexCast arg1
  let c0_2 : Index := 0#32
  ![2, v6.toNat, 0]
def k0_off4 (i : grid0.Coords) : Fin 3 → Nat :=
  let c3 : Index := 3#32
  let arg1 : BitVec 32 := BitVec.ofNat 32 (i 1).val
  let v9 : Index := Scalar.indexCast arg1
  let c0_3 : Index := 0#32
  ![3, v9.toNat, 0]
def k0_off5 (i : grid0.Coords) : Fin 3 → Nat :=
  let c4 : Index := 4#32
  let arg1 : BitVec 32 := BitVec.ofNat 32 (i 1).val
  let v12 : Index := Scalar.indexCast arg1
  let c0_4 : Index := 0#32
  ![4, v12.toNat, 0]
def k0_off6 (i : grid0.Coords) : Fin 3 → Nat :=
  let c5 : Index := 5#32
  let arg1 : BitVec 32 := BitVec.ofNat 32 (i 1).val
  let v15 : Index := Scalar.indexCast arg1
  let c0_5 : Index := 0#32
  ![5, v15.toNat, 0]
def k0_off7 (i : grid0.Coords) : Fin 3 → Nat :=
  let c6 : Index := 6#32
  let arg1 : BitVec 32 := BitVec.ofNat 32 (i 1).val
  let v18 : Index := Scalar.indexCast arg1
  let c0_6 : Index := 0#32
  ![6, v18.toNat, 0]
def k0_off8 (i : grid0.Coords) : Fin 3 → Nat :=
  let c7 : Index := 7#32
  let arg1 : BitVec 32 := BitVec.ofNat 32 (i 1).val
  let v21 : Index := Scalar.indexCast arg1
  let c0_7 : Index := 0#32
  ![7, v21.toNat, 0]
def k0_off9 (i : grid0.Coords) : Fin 2 → Nat :=
  let arg1 : BitVec 32 := BitVec.ofNat 32 (i 1).val
  let v3394 : Index := Scalar.indexCast arg1
  let c0_1695 : Index := 0#32
  ![v3394.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x6x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x128x2880 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2880 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2880 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x2880 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2880 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S6x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "inv_w" => some ((1 / 2880 : ℝ) : EReal)
  | _ => none
-- ==== ReferenceIdeal.lean ====
abbrev S8x6x2048x2880 : Shape := ⟨4, ![8, 6, 2048, 2880]⟩
abbrev S8x6x2048 : Shape := ⟨3, ![8, 6, 2048]⟩
abbrev S2880 : Shape := ⟨1, ![2880]⟩
abbrev S6x2048x2880 : Shape := ⟨3, ![6, 2048, 2880]⟩
abbrev S6x2048 : Shape := ⟨2, ![6, 2048]⟩
abbrev S8x6x2048x1 : Shape := ⟨4, ![8, 6, 2048, 1]⟩
abbrev S1x1x2880 : Shape := ⟨3, ![1, 1, 2880]⟩
abbrev S6x2048x1 : Shape := ⟨3, ![6, 2048, 1]⟩

abbrev nBuf : Space → Nat
  | .hbm => 9
  | .vmem => 9
  | .smem => 0
  | _ => 0

abbrev bufTy : (tb : Table) → Fin (tcTables nBuf tb) → BufTy
  | .hbm, ⟨0, _⟩ => ⟨S8x6x2048x2880, .fp8e4m3⟩
  | .hbm, ⟨1, _⟩ => ⟨S8x6x2048, .f32⟩
  | .hbm, ⟨2, _⟩ => ⟨S2880, .f32⟩
  | .hbm, ⟨3, _⟩ => ⟨S6x2048x2880, .bf16⟩
  | .hbm, ⟨4, _⟩ => ⟨S2880, .f32⟩
  | .hbm, ⟨5, _⟩ => ⟨S2880, .f32⟩
  | .hbm, ⟨6, _⟩ => ⟨S6x2048x2880, .bf16⟩
  | .hbm, ⟨7, _⟩ => ⟨S6x2048x2880, .fp8e4m3⟩
  | .hbm, ⟨8, _⟩ => ⟨S6x2048, .f32⟩
  | .local _ .vmem, ⟨0, _⟩ => ⟨S8x6x2048x2880, .fp8e4m3⟩
  | .local _ .vmem, ⟨1, _⟩ => ⟨S8x6x2048, .f32⟩
  | .local _ .vmem, ⟨2, _⟩ => ⟨S2880, .f32⟩
  | .local _ .vmem, ⟨3, _⟩ => ⟨S6x2048x2880, .bf16⟩
  | .local _ .vmem, ⟨4, _⟩ => ⟨S2880, .f32⟩
  | .local _ .vmem, ⟨5, _⟩ => ⟨S2880, .f32⟩
  | .local _ .vmem, ⟨6, _⟩ => ⟨S6x2048x2880, .bf16⟩
  | .local _ .vmem, ⟨7, _⟩ => ⟨S6x2048x2880, .fp8e4m3⟩
  | .local _ .vmem, ⟨8, _⟩ => ⟨S6x2048, .f32⟩
  | _, _ => ⟨S8x6x2048x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x6x2048x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2880 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x2048x2880 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2880 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2048x2880 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2048x2880 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Run.lean ====
/- What one run of the kernel's body leaves in its buffers: the pieces stored into the two staged outputs and the row
   stored into the third, found by running the body, each named as a definition of its own. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- What a run leaves: the pieces stored into the residual's block and into the codes' block (the latest first), and the
    row of scales stored into row `b` of the scales' block. -/
structure Left (F : FTy → Type) where
  res : List (View.Piece (Elt F) S1x128x2880 .bf16)
  codes : List (View.Piece (Elt F) S1x128x2880 .fp8e4m3)
  scales : FVec F S1x128 .f32

variable (c : Dev nD) (i : grid0.Coords)
  (arg2 : Memref sig .tc .vmem S8x6x128 .f32) (harg2 : arg2.IsWhole)
  (arg3 : Memref sig .tc .vmem S8x1x128x2880 .fp8e4m3) (harg3 : arg3.IsWhole)
  (arg4 : Memref sig .tc .vmem S1x128x2880 .bf16) (harg4 : arg4.IsWhole)
  (arg5 : Memref sig .tc .vmem S1x2880 .f32) (harg5 : arg5.IsWhole)
  (arg6 : Memref sig .tc .vmem S1x2880 .f32) (harg6 : arg6.IsWhole)
  (arg7 : Memref sig .tc .vmem S1x2880 .f32) (harg7 : arg7.IsWhole)
  (arg8 : Memref sig .tc .vmem S1x128x2880 .bf16) (harg8 : arg8.IsWhole)
  (arg9 : Memref sig .tc .vmem S1x128x2880 .fp8e4m3) (harg9 : arg9.IsWhole)
  (arg10 : Memref sig .tc .vmem S6x128 .f32) (harg10 : arg10.IsWhole)
  (arg11 : Memref sig .tc .vmem S128x2880 .f32) (harg11 : arg11.IsWhole)
  (x0 : Vec F S8x6x128 .f32) (x1 : Vec F S8x1x128x2880 .fp8e4m3) (x2 : Vec F S1x128x2880 .bf16)
  (x3 : Vec F S1x2880 .f32) (x4 : Vec F S1x2880 .f32) (x5 : Vec F S1x2880 .f32)

set_option maxHeartbeats 9600000 in
/-- The body's triple: the inputs' buffers keep their contents; the residual's and the codes' end as what they held with the
    pieces of `Left` written over it; the scales' ends as it was found with one row stored; the scratch ends at some contents. -/
def run : { p : Left F // ∀ (y8 : Vec F S6x128 .f32) (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare y8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ f, View.loc (c : Thread nD τ) arg8.view ↦[arg8.view.set]{fullShare} arg8.view.writes (Elt F) f p.res)
            ∗ (∃ f, View.loc (c : Thread nD τ) arg9.view ↦[arg9.view.set]{fullShare} arg9.view.writes (Elt F) f p.codes)
            ∗ (∃ f, ⌜arg10.view.read (Elt F) f = y8⌝ ∗ View.loc (c : Thread nD τ) arg10.view ↦[arg10.view.set]{fullShare} arg10.view.writes (Elt F) f [⟨Rect.unit (s := S6x128) (k0_off9 i) S1x128.size (k0_off9_inb i), p.scales⟩])
            ∗ (∃ d, owns (c : Thread nD τ) arg11 fullShare d)) -∗ K ⟨⟩))
      ⊢ wp frame (wpE (defs₀ (F := F)) Variants.none c none) E (cc0_allreduce_ln_quant i arg2 harg2 arg3 harg3 arg4 harg4 arg5 harg5 arg6 harg6 arg7 harg7 arg8 harg8 arg9 harg9 arg10 harg10 arg11 harg11) K } :=
  by
    refine' ⟨⟨_, _, _⟩, _⟩
    rotate_left 3
    intro y8 E K
    simp only [cc0_allreduce_ln_quant_eq_skeleton]; unfold cc0_allreduce_ln_quant_skel
    simp only [k0_part89_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part90_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [H8]
    · iexists f8; isplitr; · ipureintro; exact hf8
      iexact H8
    iexists _, _; isplitr; swap; · iexact HS0
    ipureintro; rfl

end Cert.KernelIdeal.Body

end
-- ==== Proof.Obligation.lean ====
/- The certificate of the idealized kernel at any values: what the body may leave in each staging buffer at each grid point, the
   body's obligation from its run, the launch, and the frame (the argument arrays end unchanged). Of the two outputs written
   whole the data say which pieces were written; of the scales' block, in which one point writes one row, they relate what
   the body leaves to what it found. -/
module

public import proofs.«01_k».proof.Proof.Run
public import Idealize.ShloMosaic.Lib.Pipeline.ArrRel
public import Idealize.ShloMosaic.Lib.Pipeline.DatRel

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memrefs of a point -/

abbrev ms0_0 (t : Fin cfg0.N) : Memref sig .tc .vmem S8x6x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1x128x2880 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x2880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2880 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2880 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2880 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x2880 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x2880 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S6x128 .f32 := win0_8.stage (cfg0.slots t 8)
abbrev hs0_8 (t : Fin cfg0.N) : (ms0_8 t).IsWhole := hstage0_8 ((cfg0.slots t 8).cast nbuf0_8)
abbrev scM0_0 : Memref sig .tc .vmem S128x2880 .f32 := Memref.whole cc0_scratch0

/-- The invariant's claim on the scratch and the generator, with the scratch at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the run at point `t` leaves. -/
def left (c : Dev nD) (t : Fin cfg0.N) : Left F :=
  (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)).1

/-! ## The proof data -/

/-- The exact part of the proof data: the arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves in the residual's block at point `t`: some contents with the run's pieces written over them; -/
def rel6 (c : Dev nD) (t : Fin cfg0.N) (_ X : Vec F S1x128x2880 .bf16) : Prop :=
  ∃ f, X = (ms0_6 t).view.read (Elt F) ((ms0_6 t).view.writes (Elt F) f (left m c t).res)
/-- in the codes' block likewise; -/
def rel7 (c : Dev nD) (t : Fin cfg0.N) (_ X : Vec F S1x128x2880 .fp8e4m3) : Prop :=
  ∃ f, X = (ms0_7 t).view.read (Elt F) ((ms0_7 t).view.writes (Elt F) f (left m c t).codes)
/-- and in the scales' block: what it found there, with the point's row replaced. -/
def rel8 (c : Dev nD) (t : Fin cfg0.N) (Y X : Vec F S6x128 .f32) : Prop :=
  ∃ f, (ms0_8 t).view.read (Elt F) f = Y
    ∧ X = (ms0_8 t).view.read (Elt F) ((ms0_8 t).view.writes (Elt F) f
        [⟨Rect.unit (s := S6x128) (k0_off9 (grid0.coords t)) S1x128.size (k0_off9_inb (grid0.coords t)), (left m c t).scales⟩])

/-- The windows held to a relation: the three outputs. -/
def rel (c : Dev nD) : (w : Fin cfg0.W) → Option (Fin cfg0.N → (Y X : (cfg0.win w).block.Idx → Elt F (cfg0.win w).elt) → Prop)
  | ⟨6, _⟩ => some (rel6 m c)
  | ⟨7, _⟩ => some (rel7 m c)
  | ⟨8, _⟩ => some (rel8 m c)
  | _ => none

/-- The proof data: the exact data, the three outputs held to their relations. -/
def rd (c : Dev nD) : RDat τ (Elt F) Unit ℕ (UR sig nD τ) ℕ cfg0 c := (dats m 0 c).toR.override (rel m c)

/-! Each input's buffer is found at its block and left there. -/

theorem finds0 (c : Dev nD) (t : Fin cfg0.N) {Y} (h : (rd m c).Finds 0 t Y) : Y = iblk m c 0 t := by
  obtain ⟨d, rfl⟩ := (dats m 0 c).toR_finds 0 t Y (((dats m 0 c).toR.override_finds (ovr := rel m c) rfl t Y).mp h)
  exact before0_0_of m (dats m 0 c) (A_eq m c 0) (fun t => by dsimp only [dats]) t d
theorem finds1 (c : Dev nD) (t : Fin cfg0.N) {Y} (h : (rd m c).Finds 1 t Y) : Y = iblk m c 1 t := by
  obtain ⟨d, rfl⟩ := (dats m 0 c).toR_finds 1 t Y (((dats m 0 c).toR.override_finds (ovr := rel m c) rfl t Y).mp h)
  exact before0_1_of m (dats m 0 c) (A_eq m c 1) (fun t => by dsimp only [dats]) t d
theorem finds2 (c : Dev nD) (t : Fin cfg0.N) {Y} (h : (rd m c).Finds 2 t Y) : Y = iblk m c 2 t := by
  obtain ⟨d, rfl⟩ := (dats m 0 c).toR_finds 2 t Y (((dats m 0 c).toR.override_finds (ovr := rel m c) rfl t Y).mp h)
  exact before0_2_of m (dats m 0 c) (A_eq m c 2) (fun t => by dsimp only [dats]) t d
theorem finds3 (c : Dev nD) (t : Fin cfg0.N) {Y} (h : (rd m c).Finds 3 t Y) : Y = iblk m c 3 t := by
  obtain ⟨d, rfl⟩ := (dats m 0 c).toR_finds 3 t Y (((dats m 0 c).toR.override_finds (ovr := rel m c) rfl t Y).mp h)
  exact before0_3_of m (dats m 0 c) (A_eq m c 3) (fun t => by dsimp only [dats]) t d
theorem finds4 (c : Dev nD) (t : Fin cfg0.N) {Y} (h : (rd m c).Finds 4 t Y) : Y = iblk m c 4 t := by
  obtain ⟨d, rfl⟩ := (dats m 0 c).toR_finds 4 t Y (((dats m 0 c).toR.override_finds (ovr := rel m c) rfl t Y).mp h)
  exact before0_4_of m (dats m 0 c) (A_eq m c 4) (fun t => by dsimp only [dats]) t d
theorem finds5 (c : Dev nD) (t : Fin cfg0.N) {Y} (h : (rd m c).Finds 5 t Y) : Y = iblk m c 5 t := by
  obtain ⟨d, rfl⟩ := (dats m 0 c).toR_finds 5 t Y (((dats m 0 c).toR.override_finds (ovr := rel m c) rfl t Y).mp h)
  exact before0_5_of m (dats m 0 c) (A_eq m c 5) (fun t => by dsimp only [dats]) t d

theorem after0 (c : Dev nD) (t : Fin cfg0.N) (Y) : (rd m c).after 0 t Y (iblk m c 0 t) :=
  (rfl : iblk m c 0 t = (dats m 0 c).after 0 t)
theorem after1 (c : Dev nD) (t : Fin cfg0.N) (Y) : (rd m c).after 1 t Y (iblk m c 1 t) :=
  (rfl : iblk m c 1 t = (dats m 0 c).after 1 t)
theorem after2 (c : Dev nD) (t : Fin cfg0.N) (Y) : (rd m c).after 2 t Y (iblk m c 2 t) :=
  (rfl : iblk m c 2 t = (dats m 0 c).after 2 t)
theorem after3 (c : Dev nD) (t : Fin cfg0.N) (Y) : (rd m c).after 3 t Y (iblk m c 3 t) :=
  (rfl : iblk m c 3 t = (dats m 0 c).after 3 t)
theorem after4 (c : Dev nD) (t : Fin cfg0.N) (Y) : (rd m c).after 4 t Y (iblk m c 4 t) :=
  (rfl : iblk m c 4 t = (dats m 0 c).after 4 t)
theorem after5 (c : Dev nD) (t : Fin cfg0.N) (Y) : (rd m c).after 5 t Y (iblk m c 5 t) :=
  (rfl : iblk m c 5 t = (dats m 0 c).after 5 t)

/-! ## The body's obligation -/

/-- What the body is called with at point `t`, the windows one by one, -/
def bodyPre (c : Dev nD) (t : Fin cfg0.N) (Y : (w : Fin cfg0.W) → (cfg0.win w).block.Idx → Elt F (cfg0.win w).elt) : sProp 𝕄 :=
  iprop((rd m c).Φ t.castSucc ∗ (rd m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8))

/-- and what it returns. -/
def bodyPost (c : Dev nD) (t : Fin cfg0.N) (Y : (w : Fin cfg0.W) → (cfg0.win w).block.Idx → Elt F (cfg0.win w).elt) : sProp 𝕄 :=
  iprop((rd m c).Φ t.succ ∗ (rd m c).owesAt () t.succ
    ∗ (∃ X, ⌜(rd m c).after 0 t (Y 0) X⌝ ∗ owns (c : Thread nD τ) (ms0_0 t) fullShare X)
    ∗ (∃ X, ⌜(rd m c).after 1 t (Y 1) X⌝ ∗ owns (c : Thread nD τ) (ms0_1 t) fullShare X)
    ∗ (∃ X, ⌜(rd m c).after 2 t (Y 2) X⌝ ∗ owns (c : Thread nD τ) (ms0_2 t) fullShare X)
    ∗ (∃ X, ⌜(rd m c).after 3 t (Y 3) X⌝ ∗ owns (c : Thread nD τ) (ms0_3 t) fullShare X)
    ∗ (∃ X, ⌜(rd m c).after 4 t (Y 4) X⌝ ∗ owns (c : Thread nD τ) (ms0_4 t) fullShare X)
    ∗ (∃ X, ⌜(rd m c).after 5 t (Y 5) X⌝ ∗ owns (c : Thread nD τ) (ms0_5 t) fullShare X)
    ∗ (∃ X, ⌜(rd m c).after 6 t (Y 6) X⌝ ∗ owns (c : Thread nD τ) (ms0_6 t) fullShare X)
    ∗ (∃ X, ⌜(rd m c).after 7 t (Y 7) X⌝ ∗ owns (c : Thread nD τ) (ms0_7 t) fullShare X)
    ∗ (∃ X, ⌜(rd m c).after 8 t (Y 8) X⌝ ∗ owns (c : Thread nD τ) (ms0_8 t) fullShare X))

set_option maxHeartbeats 1600000 in
/-- The body at any point, from contents the data allow, ends at contents the data allow. -/
theorem sound_body (c : Dev nD) (t : Fin cfg0.N) (Y : (w : Fin cfg0.W) → (cfg0.win w).block.Idx → Elt F (cfg0.win w).elt)
    (hY : ∀ w, (rd m c).Finds w t (Y w)) :
    bodyPre m c t Y ⊢ wp frame (wpE (defs₀ (F := F)) Variants.none c none) Set.univ (bodyAt0 t) (fun _ => bodyPost m c t Y) := by
  unfold bodyPre bodyPost bodyAt0
  rw [finds0 m c t (hY 0), finds1 m c t (hY 1), finds2 m c t (hY 2), finds3 m c t (hY 3), finds4 m c t (hY 4), finds5 m c t (hY 5)]
  rw [show (rd m c).Φ t.succ = (rd m c).Φ t.castSucc from rfl,
    show (rd m c).owesAt () t.succ = (rd m c).owesAt () t.castSucc from rfl]
  rw [show (rd m c).Φ t.castSucc = Pipeline.ΦA spec0 c from rfl, PhiA0_eq]
  iintro ⟨⟨HS0, Hg⟩, Ho, H0, H1, H2, H3, H4, H5, H6, H7, H8⟩
  iapply ((run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)).2 (Y 8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS0]; · iexact HS0
  iintro ⟨H0, H1, H2, H3, H4, H5, ⟨%f6, H6⟩, ⟨%f7, H7⟩, ⟨%f8, %hf8, H8⟩, HS0⟩
  isplitl [HS0 Hg]
  · isplitl [HS0]
    · iexact HS0
    iexact Hg
  isplitl [Ho]; · iexact Ho
  isplitl [H0]
  · iexists (iblk m c 0 t); isplitr
    · ipureintro; exact after0 m c t _
    · iexact H0
  isplitl [H1]
  · iexists (iblk m c 1 t); isplitr
    · ipureintro; exact after1 m c t _
    · iexact H1
  isplitl [H2]
  · iexists (iblk m c 2 t); isplitr
    · ipureintro; exact after2 m c t _
    · iexact H2
  isplitl [H3]
  · iexists (iblk m c 3 t); isplitr
    · ipureintro; exact after3 m c t _
    · iexact H3
  isplitl [H4]
  · iexists (iblk m c 4 t); isplitr
    · ipureintro; exact after4 m c t _
    · iexact H4
  isplitl [H5]
  · iexists (iblk m c 5 t); isplitr
    · ipureintro; exact after5 m c t _
    · iexact H5
  isplitl [H6]
  · iexists _; isplitr
    · ipureintro; exact (⟨f6, rfl⟩ : rel6 m c t (Y 6) _)
    · unfold owns; iexists _; isplitr; swap; · iexact H6
      ipureintro; rfl
  isplitl [H7]
  · iexists _; isplitr
    · ipureintro; exact (⟨f7, rfl⟩ : rel7 m c t (Y 7) _)
    · unfold owns; iexists _; isplitr; swap; · iexact H7
      ipureintro; rfl
  iexists _; isplitr
  · ipureintro; exact (⟨f8, hf8, rfl⟩ : rel8 m c t (Y 8) _)
  · unfold owns; iexists _; isplitr; swap; · iexact H8
    ipureintro; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : (rd (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

set_option backward.isDefEq.respectTransparency.types false in
/-- The launch: every fair execution terminates with every array at contents the data allow, every other buffer as it was, and every
    semaphore counter at zero. -/
theorem run_main_quiescent : θ_run defs (onTc (τ := τ) (main (F := F))) (s₀ m ρ)
    (fun r => Pipeline.RDat.FramePost (cfgs 0) (fun c => rd m c) (V m) r ∧ r.2.sem = fun _ => 0) :=
  Pipeline.RDat.θ_run_frame (Q' := _) cfgs (0 : Fin 1) launch0 defs₀ Variants.none (fun c => rd m c) m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => rd m c) (V m)) :=
  (θ_run defs _ _).mono (fun _ h => h.1) (run_main_quiescent m ρ)

/-- The contents the data allow leave every argument array as it was. -/
theorem args_unchanged {r : PUnit × MemSt nD τ sig (Elt F)} (h : Pipeline.RDat.FramePost (cfgs 0) (fun c => rd m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 1 rfl).trans ((A_eq m c 1).trans (V_main_arg0 m c)),
    (Pipeline.RDat.FramePost.arr_in h c 0 rfl).trans ((A_eq m c 0).trans (V_main_arg1 m c)),
    ((h c).2 main_arg2 (Pipeline.mem_restRefs_of main_arg2 (by decide) (by decide))).trans (V_main_arg2 m c),
    (Pipeline.RDat.FramePost.arr_in h c 2 rfl).trans ((A_eq m c 2).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_unchanged m h.1 c, h.2⟩) (run_main_quiescent m ρ)

end Cert.KernelIdeal.Body

end
-- ==== Proof.KRun.lean ====
/- What one run of the kernel's body leaves in its buffers: the pieces stored into the two staged outputs and the row
   stored into the third, found by running the body, each named as a definition of its own. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- What a run leaves: the pieces stored into the residual's block and into the codes' block (the latest first), and the
    row of scales stored into row `b` of the scales' block. -/
structure Left (F : FTy → Type) where
  res : List (View.Piece (Elt F) S1x128x2880 .bf16)
  codes : List (View.Piece (Elt F) S1x128x2880 .fp8e4m3)
  scales : FVec F S1x128 .f32

variable (c : Dev nD) (i : grid0.Coords)
  (arg2 : Memref sig .tc .vmem S8x6x128 .f32) (harg2 : arg2.IsWhole)
  (arg3 : Memref sig .tc .vmem S8x1x128x2880 .fp8e4m3) (harg3 : arg3.IsWhole)
  (arg4 : Memref sig .tc .vmem S1x128x2880 .bf16) (harg4 : arg4.IsWhole)
  (arg5 : Memref sig .tc .vmem S1x2880 .f32) (harg5 : arg5.IsWhole)
  (arg6 : Memref sig .tc .vmem S1x2880 .f32) (harg6 : arg6.IsWhole)
  (arg7 : Memref sig .tc .vmem S1x2880 .f32) (harg7 : arg7.IsWhole)
  (arg8 : Memref sig .tc .vmem S1x128x2880 .bf16) (harg8 : arg8.IsWhole)
  (arg9 : Memref sig .tc .vmem S1x128x2880 .fp8e4m3) (harg9 : arg9.IsWhole)
  (arg10 : Memref sig .tc .vmem S6x128 .f32) (harg10 : arg10.IsWhole)
  (arg11 : Memref sig .tc .vmem S128x2880 .f32) (harg11 : arg11.IsWhole)
  (x0 : Vec F S8x6x128 .f32) (x1 : Vec F S8x1x128x2880 .fp8e4m3) (x2 : Vec F S1x128x2880 .bf16)
  (x3 : Vec F S1x2880 .f32) (x4 : Vec F S1x2880 .f32) (x5 : Vec F S1x2880 .f32)

set_option maxHeartbeats 9600000 in
/-- The body's triple: the inputs' buffers keep their contents; the residual's and the codes' end as what they held with the
    pieces of `Left` written over it; the scales' ends as it was found with one row stored; the scratch ends at some contents. -/
def run : { p : Left F // ∀ (y8 : Vec F S6x128 .f32) (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare y8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ f, View.loc (c : Thread nD τ) arg8.view ↦[arg8.view.set]{fullShare} arg8.view.writes (Elt F) f p.res)
            ∗ (∃ f, View.loc (c : Thread nD τ) arg9.view ↦[arg9.view.set]{fullShare} arg9.view.writes (Elt F) f p.codes)
            ∗ (∃ f, ⌜arg10.view.read (Elt F) f = y8⌝ ∗ View.loc (c : Thread nD τ) arg10.view ↦[arg10.view.set]{fullShare} arg10.view.writes (Elt F) f [⟨Rect.unit (s := S6x128) (k0_off9 i) S1x128.size (k0_off9_inb i), p.scales⟩])
            ∗ (∃ d, owns (c : Thread nD τ) arg11 fullShare d)) -∗ K ⟨⟩))
      ⊢ wp frame (wpE (defs₀ (F := F)) Variants.none c none) E (cc0_allreduce_ln_quant i arg2 harg2 arg3 harg3 arg4 harg4 arg5 harg5 arg6 harg6 arg7 harg7 arg8 harg8 arg9 harg9 arg10 harg10 arg11 harg11) K } :=
  by
    refine' ⟨⟨_, _, _⟩, _⟩
    rotate_left 3
    intro y8 E K
    simp only [cc0_allreduce_ln_quant_eq_skeleton]; unfold cc0_allreduce_ln_quant_skel
    simp only [k0_part89_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part90_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [H8]
    · iexists f8; isplitr; · ipureintro; exact hf8
      iexact H8
    iexists _, _; isplitr; swap; · iexact HS0
    ipureintro; rfl

end Cert.Kernel.Body

end
-- ==== Proof.KObligation.lean ====
/- The certificate of the idealized kernel at any values: what the body may leave in each staging buffer at each grid point, the
   body's obligation from its run, the launch, and the frame (the argument arrays end unchanged). Of the two outputs written
   whole the data say which pieces were written; of the scales' block, in which one point writes one row, they relate what
   the body leaves to what it found. -/
module

public import proofs.«01_k».proof.Proof.KRun
public import Idealize.ShloMosaic.Lib.Pipeline.ArrRel
public import Idealize.ShloMosaic.Lib.Pipeline.DatRel

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs of a point -/

abbrev ms0_0 (t : Fin cfg0.N) : Memref sig .tc .vmem S8x6x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1x128x2880 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x2880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2880 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2880 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2880 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x2880 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x2880 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S6x128 .f32 := win0_8.stage (cfg0.slots t 8)
abbrev hs0_8 (t : Fin cfg0.N) : (ms0_8 t).IsWhole := hstage0_8 ((cfg0.slots t 8).cast nbuf0_8)
abbrev scM0_0 : Memref sig .tc .vmem S128x2880 .f32 := Memref.whole cc0_scratch0

/-- The invariant's claim on the scratch and the generator, with the scratch at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the run at point `t` leaves. -/
def left (c : Dev nD) (t : Fin cfg0.N) : Left F :=
  (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)).1

/-! ## The proof data -/

/-- The exact part of the proof data: the arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves in the residual's block at point `t`: some contents with the run's pieces written over them; -/
def rel6 (c : Dev nD) (t : Fin cfg0.N) (_ X : Vec F S1x128x2880 .bf16) : Prop :=
  ∃ f, X = (ms0_6 t).view.read (Elt F) ((ms0_6 t).view.writes (Elt F) f (left m c t).res)
/-- in the codes' block likewise; -/
def rel7 (c : Dev nD) (t : Fin cfg0.N) (_ X : Vec F S1x128x2880 .fp8e4m3) : Prop :=
  ∃ f, X = (ms0_7 t).view.read (Elt F) ((ms0_7 t).view.writes (Elt F) f (left m c t).codes)
/-- and in the scales' block: what it found there, with the point's row replaced. -/
def rel8 (c : Dev nD) (t : Fin cfg0.N) (Y X : Vec F S6x128 .f32) : Prop :=
  ∃ f, (ms0_8 t).view.read (Elt F) f = Y
    ∧ X = (ms0_8 t).view.read (Elt F) ((ms0_8 t).view.writes (Elt F) f
        [⟨Rect.unit (s := S6x128) (k0_off9 (grid0.coords t)) S1x128.size (k0_off9_inb (grid0.coords t)), (left m c t).scales⟩])

/-- The windows held to a relation: the three outputs. -/
def rel (c : Dev nD) : (w : Fin cfg0.W) → Option (Fin cfg0.N → (Y X : (cfg0.win w).block.Idx → Elt F (cfg0.win w).elt) → Prop)
  | ⟨6, _⟩ => some (rel6 m c)
  | ⟨7, _⟩ => some (rel7 m c)
  | ⟨8, _⟩ => some (rel8 m c)
  | _ => none

/-- The proof data: the exact data, the three outputs held to their relations. -/
def rd (c : Dev nD) : RDat τ (Elt F) Unit ℕ (UR sig nD τ) ℕ cfg0 c := (dats m 0 c).toR.override (rel m c)

/-! Each input's buffer is found at its block and left there. -/

theorem finds0 (c : Dev nD) (t : Fin cfg0.N) {Y} (h : (rd m c).Finds 0 t Y) : Y = iblk m c 0 t := by
  obtain ⟨d, rfl⟩ := (dats m 0 c).toR_finds 0 t Y (((dats m 0 c).toR.override_finds (ovr := rel m c) rfl t Y).mp h)
  exact before0_0_of m (dats m 0 c) (A_eq m c 0) (fun t => by dsimp only [dats]) t d
theorem finds1 (c : Dev nD) (t : Fin cfg0.N) {Y} (h : (rd m c).Finds 1 t Y) : Y = iblk m c 1 t := by
  obtain ⟨d, rfl⟩ := (dats m 0 c).toR_finds 1 t Y (((dats m 0 c).toR.override_finds (ovr := rel m c) rfl t Y).mp h)
  exact before0_1_of m (dats m 0 c) (A_eq m c 1) (fun t => by dsimp only [dats]) t d
theorem finds2 (c : Dev nD) (t : Fin cfg0.N) {Y} (h : (rd m c).Finds 2 t Y) : Y = iblk m c 2 t := by
  obtain ⟨d, rfl⟩ := (dats m 0 c).toR_finds 2 t Y (((dats m 0 c).toR.override_finds (ovr := rel m c) rfl t Y).mp h)
  exact before0_2_of m (dats m 0 c) (A_eq m c 2) (fun t => by dsimp only [dats]) t d
theorem finds3 (c : Dev nD) (t : Fin cfg0.N) {Y} (h : (rd m c).Finds 3 t Y) : Y = iblk m c 3 t := by
  obtain ⟨d, rfl⟩ := (dats m 0 c).toR_finds 3 t Y (((dats m 0 c).toR.override_finds (ovr := rel m c) rfl t Y).mp h)
  exact before0_3_of m (dats m 0 c) (A_eq m c 3) (fun t => by dsimp only [dats]) t d
theorem finds4 (c : Dev nD) (t : Fin cfg0.N) {Y} (h : (rd m c).Finds 4 t Y) : Y = iblk m c 4 t := by
  obtain ⟨d, rfl⟩ := (dats m 0 c).toR_finds 4 t Y (((dats m 0 c).toR.override_finds (ovr := rel m c) rfl t Y).mp h)
  exact before0_4_of m (dats m 0 c) (A_eq m c 4) (fun t => by dsimp only [dats]) t d
theorem finds5 (c : Dev nD) (t : Fin cfg0.N) {Y} (h : (rd m c).Finds 5 t Y) : Y = iblk m c 5 t := by
  obtain ⟨d, rfl⟩ := (dats m 0 c).toR_finds 5 t Y (((dats m 0 c).toR.override_finds (ovr := rel m c) rfl t Y).mp h)
  exact before0_5_of m (dats m 0 c) (A_eq m c 5) (fun t => by dsimp only [dats]) t d

theorem after0 (c : Dev nD) (t : Fin cfg0.N) (Y) : (rd m c).after 0 t Y (iblk m c 0 t) :=
  (rfl : iblk m c 0 t = (dats m 0 c).after 0 t)
theorem after1 (c : Dev nD) (t : Fin cfg0.N) (Y) : (rd m c).after 1 t Y (iblk m c 1 t) :=
  (rfl : iblk m c 1 t = (dats m 0 c).after 1 t)
theorem after2 (c : Dev nD) (t : Fin cfg0.N) (Y) : (rd m c).after 2 t Y (iblk m c 2 t) :=
  (rfl : iblk m c 2 t = (dats m 0 c).after 2 t)
theorem after3 (c : Dev nD) (t : Fin cfg0.N) (Y) : (rd m c).after 3 t Y (iblk m c 3 t) :=
  (rfl : iblk m c 3 t = (dats m 0 c).after 3 t)
theorem after4 (c : Dev nD) (t : Fin cfg0.N) (Y) : (rd m c).after 4 t Y (iblk m c 4 t) :=
  (rfl : iblk m c 4 t = (dats m 0 c).after 4 t)
theorem after5 (c : Dev nD) (t : Fin cfg0.N) (Y) : (rd m c).after 5 t Y (iblk m c 5 t) :=
  (rfl : iblk m c 5 t = (dats m 0 c).after 5 t)

/-! ## The body's obligation -/

/-- What the body is called with at point `t`, the windows one by one, -/
def bodyPre (c : Dev nD) (t : Fin cfg0.N) (Y : (w : Fin cfg0.W) → (cfg0.win w).block.Idx → Elt F (cfg0.win w).elt) : sProp 𝕄 :=
  iprop((rd m c).Φ t.castSucc ∗ (rd m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8))

/-- and what it returns. -/
def bodyPost (c : Dev nD) (t : Fin cfg0.N) (Y : (w : Fin cfg0.W) → (cfg0.win w).block.Idx → Elt F (cfg0.win w).elt) : sProp 𝕄 :=
  iprop((rd m c).Φ t.succ ∗ (rd m c).owesAt () t.succ
    ∗ (∃ X, ⌜(rd m c).after 0 t (Y 0) X⌝ ∗ owns (c : Thread nD τ) (ms0_0 t) fullShare X)
    ∗ (∃ X, ⌜(rd m c).after 1 t (Y 1) X⌝ ∗ owns (c : Thread nD τ) (ms0_1 t) fullShare X)
    ∗ (∃ X, ⌜(rd m c).after 2 t (Y 2) X⌝ ∗ owns (c : Thread nD τ) (ms0_2 t) fullShare X)
    ∗ (∃ X, ⌜(rd m c).after 3 t (Y 3) X⌝ ∗ owns (c : Thread nD τ) (ms0_3 t) fullShare X)
    ∗ (∃ X, ⌜(rd m c).after 4 t (Y 4) X⌝ ∗ owns (c : Thread nD τ) (ms0_4 t) fullShare X)
    ∗ (∃ X, ⌜(rd m c).after 5 t (Y 5) X⌝ ∗ owns (c : Thread nD τ) (ms0_5 t) fullShare X)
    ∗ (∃ X, ⌜(rd m c).after 6 t (Y 6) X⌝ ∗ owns (c : Thread nD τ) (ms0_6 t) fullShare X)
    ∗ (∃ X, ⌜(rd m c).after 7 t (Y 7) X⌝ ∗ owns (c : Thread nD τ) (ms0_7 t) fullShare X)
    ∗ (∃ X, ⌜(rd m c).after 8 t (Y 8) X⌝ ∗ owns (c : Thread nD τ) (ms0_8 t) fullShare X))

set_option maxHeartbeats 1600000 in
/-- The body at any point, from contents the data allow, ends at contents the data allow. -/
theorem sound_body (c : Dev nD) (t : Fin cfg0.N) (Y : (w : Fin cfg0.W) → (cfg0.win w).block.Idx → Elt F (cfg0.win w).elt)
    (hY : ∀ w, (rd m c).Finds w t (Y w)) :
    bodyPre m c t Y ⊢ wp frame (wpE (defs₀ (F := F)) Variants.none c none) Set.univ (bodyAt0 t) (fun _ => bodyPost m c t Y) := by
  unfold bodyPre bodyPost bodyAt0
  rw [finds0 m c t (hY 0), finds1 m c t (hY 1), finds2 m c t (hY 2), finds3 m c t (hY 3), finds4 m c t (hY 4), finds5 m c t (hY 5)]
  rw [show (rd m c).Φ t.succ = (rd m c).Φ t.castSucc from rfl,
    show (rd m c).owesAt () t.succ = (rd m c).owesAt () t.castSucc from rfl]
  rw [show (rd m c).Φ t.castSucc = Pipeline.ΦA spec0 c from rfl, PhiA0_eq]
  iintro ⟨⟨HS0, Hg⟩, Ho, H0, H1, H2, H3, H4, H5, H6, H7, H8⟩
  iapply ((run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)).2 (Y 8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS0]; · iexact HS0
  iintro ⟨H0, H1, H2, H3, H4, H5, ⟨%f6, H6⟩, ⟨%f7, H7⟩, ⟨%f8, %hf8, H8⟩, HS0⟩
  isplitl [HS0 Hg]
  · isplitl [HS0]
    · iexact HS0
    iexact Hg
  isplitl [Ho]; · iexact Ho
  isplitl [H0]
  · iexists (iblk m c 0 t); isplitr
    · ipureintro; exact after0 m c t _
    · iexact H0
  isplitl [H1]
  · iexists (iblk m c 1 t); isplitr
    · ipureintro; exact after1 m c t _
    · iexact H1
  isplitl [H2]
  · iexists (iblk m c 2 t); isplitr
    · ipureintro; exact after2 m c t _
    · iexact H2
  isplitl [H3]
  · iexists (iblk m c 3 t); isplitr
    · ipureintro; exact after3 m c t _
    · iexact H3
  isplitl [H4]
  · iexists (iblk m c 4 t); isplitr
    · ipureintro; exact after4 m c t _
    · iexact H4
  isplitl [H5]
  · iexists (iblk m c 5 t); isplitr
    · ipureintro; exact after5 m c t _
    · iexact H5
  isplitl [H6]
  · iexists _; isplitr
    · ipureintro; exact (⟨f6, rfl⟩ : rel6 m c t (Y 6) _)
    · unfold owns; iexists _; isplitr; swap; · iexact H6
      ipureintro; rfl
  isplitl [H7]
  · iexists _; isplitr
    · ipureintro; exact (⟨f7, rfl⟩ : rel7 m c t (Y 7) _)
    · unfold owns; iexists _; isplitr; swap; · iexact H7
      ipureintro; rfl
  iexists _; isplitr
  · ipureintro; exact (⟨f8, hf8, rfl⟩ : rel8 m c t (Y 8) _)
  · unfold owns; iexists _; isplitr; swap; · iexact H8
    ipureintro; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : (rd (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

set_option backward.isDefEq.respectTransparency.types false in
/-- The launch: every fair execution terminates with every array at contents the data allow, every other buffer as it was, and every
    semaphore counter at zero. -/
theorem run_main_quiescent : θ_run defs (onTc (τ := τ) (main (F := F))) (s₀ m ρ)
    (fun r => Pipeline.RDat.FramePost (cfgs 0) (fun c => rd m c) (V m) r ∧ r.2.sem = fun _ => 0) :=
  Pipeline.RDat.θ_run_frame (Q' := _) cfgs (0 : Fin 1) launch0 defs₀ Variants.none (fun c => rd m c) m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => rd m c) (V m)) :=
  (θ_run defs _ _).mono (fun _ h => h.1) (run_main_quiescent m ρ)

/-- The contents the data allow leave every argument array as it was. -/
theorem args_unchanged {r : PUnit × MemSt nD τ sig (Elt F)} (h : Pipeline.RDat.FramePost (cfgs 0) (fun c => rd m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 1 rfl).trans ((A_eq m c 1).trans (V_main_arg0 m c)),
    (Pipeline.RDat.FramePost.arr_in h c 0 rfl).trans ((A_eq m c 0).trans (V_main_arg1 m c)),
    ((h c).2 main_arg2 (Pipeline.mem_restRefs_of main_arg2 (by decide) (by decide))).trans (V_main_arg2 m c),
    (Pipeline.RDat.FramePost.arr_in h c 2 rfl).trans ((A_eq m c 2).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_unchanged m h.1 c, h.2⟩) (run_main_quiescent m ρ)

end Cert.Kernel.Body

end
-- ==== Proof.Pre.lean ====
/- What the precondition says: the gain and the bias are finite. -/
module

public import proofs.«01_k».proof.Pre_finite
public import proofs.«01_k».proof.Proof.Gen.Pre_finite
public import Idealize.ShloMosaic.PureOps.Ideal.Laws
public import Idealize.ShloMosaic.Lib.IdealHost
public import Idealize.ShloMosaic.Lib.ReduceAll

@[expose] public section

noncomputable section

namespace Cert.Pre_finite

open Idealize.ShloMosaic

/-- No entry of the vector exceeds the largest single-precision number in magnitude. -/
abbrev Bounded (a : S2880.Idx → EReal) : Prop := ∀ j, max (a j) (-a j) ≤ Ideal.ofBits .f32 0x7F7FFFFF#32

/-- The comparison "at most" that came out 1 holds of the two values. -/
theorem le_of_cmp {x y : EReal} (h : Ideal.cmp .ole x y = 1#1) : x ≤ y := by
  by_contra hn
  simp [Ideal.cmp, hn] at h

instance : Subsingleton S_.Idx := ⟨fun a b => funext fun k => k.elim0⟩

/-- If every magnitude compares at most the largest finite number, the vector is bounded by it. -/
theorem bounded_of_all [Facts] (a : FVec Ideal S2880 .f32) (j : S_.Idx)
    (h : Host.reduce IntOp.andi (cmpf .ole (Host.absf a)
        (broadcastInDim S2880 ![] Facts.bcast_S_S2880 (constant (F := Ideal) S_ .f32 0x7F7FFFFF#32)))
        (constantI S_ 1 1#1) Facts.reducesTo_S2880_S_d0 Facts.h_S_ j = 1#1) : Bounded a := fun i =>
  le_of_cmp (Host.reduce_andi_all _ _ _ _ j h i)

/-- The precondition bounds the gain and the bias. -/
theorem bounded [Facts] (a0 : FVec Ideal S8x6x2048x2880 .fp8e4m3) (a1 : FVec Ideal S8x6x2048 .f32) (a2 : FVec Ideal S2880 .f32)
    (a3 : FVec Ideal S6x2048x2880 .bf16) (a4 a5 : FVec Ideal S2880 .f32) (h : fn a0 a1 a2 a3 a4 a5 = fun _ => 1#1) :
    Bounded a4 ∧ Bounded a5 :=
  have hj := congrFun h fun k => k.elim0
  have e := IntOp.andi_eq_one.1 hj
  ⟨bounded_of_all a4 _ e.1, bounded_of_all a5 _ e.2⟩

end Cert.Pre_finite

end
-- ==== Proof.Ops.lean ====
/- The body's operations, one definition per stage, for any group `g` of 32 rows and any chunk `c` of 256 columns (the last 64 columns
   apart): what is stored into the residual's block, the mean, the deviations, the normalized rows, the exponent, the codes and
   the scales' row — as functions of the blocks staged in, each stage spelt with the operations the body performs. -/
module

public import proofs.«01_k».proof.Proof.Run

@[expose] public section

set_option maxRecDepth 16384

noncomputable section

namespace Cert.KernelIdeal.Body

open Idealize.ShloMosaic Idealize.ShloMosaic.TcCoe
open Idealize.SL.Sem
open Cert.KernelIdeal.Gen

variable {F : FTy → Type} [FloatOps F] [Named F]

/-! ## Rectangles: group `g`'s rows at chunk `c`'s columns -/

theorem inbP (g : Fin 4) (c : Fin 11) : ∀ a, (![0, 0, 32 * g.val, 256 * c.val] : Fin 4 → Nat) a + S8x1x32x256.size a ≤ S8x1x128x2880.size a := by
  have := g.isLt; have := c.isLt
  intro a; fin_cases a <;> simp [S8x1x32x256, S8x1x128x2880] <;> omega
theorem inbPt (g : Fin 4) : ∀ a, (![0, 0, 32 * g.val, 2816] : Fin 4 → Nat) a + S8x1x32x64.size a ≤ S8x1x128x2880.size a := by
  have := g.isLt
  intro a; fin_cases a <;> simp [S8x1x32x64, S8x1x128x2880] <;> omega
theorem inbB (g : Fin 4) (c : Fin 11) : ∀ a, (![0, 32 * g.val, 256 * c.val] : Fin 3 → Nat) a + S1x32x256.size a ≤ S1x128x2880.size a := by
  have := g.isLt; have := c.isLt
  intro a; fin_cases a <;> simp [S1x32x256, S1x128x2880] <;> omega
theorem inbBt (g : Fin 4) : ∀ a, (![0, 32 * g.val, 2816] : Fin 3 → Nat) a + S1x32x64.size a ≤ S1x128x2880.size a := by
  have := g.isLt
  intro a; fin_cases a <;> simp [S1x32x64, S1x128x2880] <;> omega
theorem inbS (g : Fin 4) (c : Fin 11) : ∀ a, (![32 * g.val, 256 * c.val] : Fin 2 → Nat) a + S32x256.size a ≤ S128x2880.size a := by
  have := g.isLt; have := c.isLt
  intro a; fin_cases a <;> simp [S32x256, S128x2880] <;> omega
theorem inbSt (g : Fin 4) : ∀ a, (![32 * g.val, 2816] : Fin 2 → Nat) a + S32x64.size a ≤ S128x2880.size a := by
  have := g.isLt
  intro a; fin_cases a <;> simp [S32x64, S128x2880] <;> omega
theorem inbR (c : Fin 11) : ∀ a, (![0, 256 * c.val] : Fin 2 → Nat) a + S1x256.size a ≤ S1x2880.size a := by
  have := c.isLt
  intro a; fin_cases a <;> simp [S1x256, S1x2880] <;> omega
theorem inbRt : ∀ a, (![0, 2816] : Fin 2 → Nat) a + S1x64.size a ≤ S1x2880.size a := by
  intro a; fin_cases a <;> simp [S1x64, S1x2880]
theorem sliceG : ∀ g : Fin 4, S1x128.Slices ![0, 32 * g.val] S1x32
  | ⟨0, _⟩ => slices_S1x128_o0_0_S1x32
  | ⟨1, _⟩ => slices_S1x128_o0_32_S1x32
  | ⟨2, _⟩ => slices_S1x128_o0_64_S1x32
  | ⟨3, _⟩ => slices_S1x128_o0_96_S1x32

/-- In the partials' block; -/
abbrev rP (g : Fin 4) (c : Fin 11) : Rect S8x1x128x2880 := Rect.unit (s := S8x1x128x2880) ![0, 0, 32 * g.val, 256 * c.val] S8x1x32x256.size (inbP g c)
abbrev rPt (g : Fin 4) : Rect S8x1x128x2880 := Rect.unit (s := S8x1x128x2880) ![0, 0, 32 * g.val, 2816] S8x1x32x64.size (inbPt g)
/-- in a block of one batch row; -/
abbrev rB (g : Fin 4) (c : Fin 11) : Rect S1x128x2880 := Rect.unit (s := S1x128x2880) ![0, 32 * g.val, 256 * c.val] S1x32x256.size (inbB g c)
abbrev rBt (g : Fin 4) : Rect S1x128x2880 := Rect.unit (s := S1x128x2880) ![0, 32 * g.val, 2816] S1x32x64.size (inbBt g)
/-- in the scratch; -/
abbrev rS (g : Fin 4) (c : Fin 11) : Rect S128x2880 := Rect.unit (s := S128x2880) ![32 * g.val, 256 * c.val] S32x256.size (inbS g c)
abbrev rSt (g : Fin 4) : Rect S128x2880 := Rect.unit (s := S128x2880) ![32 * g.val, 2816] S32x64.size (inbSt g)
/-- in a row of parameters. -/
abbrev rR (c : Fin 11) : Rect S1x2880 := Rect.unit (s := S1x2880) ![0, 256 * c.val] S1x256.size (inbR c)
abbrev rRt : Rect S1x2880 := Rect.unit (s := S1x2880) ![0, 2816] S1x64.size inbRt

/-- The chunks in the order the body takes them. -/
def chunks : List (Fin 11) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩]

/-- The strips in the order that a list of pieces has them, the latest first: the last 64 columns (`none`), then the chunks from the last. -/
def strips : List (Option (Fin 11)) := [none, some ⟨10, by decide⟩, some ⟨9, by decide⟩, some ⟨8, by decide⟩, some ⟨7, by decide⟩, some ⟨6, by decide⟩, some ⟨5, by decide⟩, some ⟨4, by decide⟩, some ⟨3, by decide⟩, some ⟨2, by decide⟩, some ⟨1, by decide⟩, some ⟨0, by decide⟩]

/-! ## Shared pieces of the stages -/

abbrev zero : F .f32 := Scalar.ofBits .f32 0x00000000#32
abbrev zero128 : FVec F S32x128 .f32 := broadcast S32x128 zero
abbrev zero1 : FVec F S32x1 .f32 := broadcast S32x1 zero
abbrev invW : F .f32 := Named.named κ "inv_w" 0x39B60B61#32

/-- A chunk's two halves of 128 columns added onto an accumulator. -/
def addHalves (acc : FVec F S32x128 .f32) (v : FVec F S32x256 .f32) : FVec F S32x128 .f32 :=
  addf (addf acc (extractStridedSlice S32x128 ![0, 0] v slices_S32x256_o0_0_S32x128)) (extractStridedSlice S32x128 ![0, 128] v slices_S32x256_o0_128_S32x128)

/-- The sum of a row: the accumulated lanes, and the last 64 columns. -/
def rowSum (acc : FVec F S32x128 .f32) (t : FVec F S32x64 .f32) : FVec F S32x1 .f32 :=
  addf (shapeCast S32x1 (multiReduction .add [1] S32 acc 0x00000000#32 reduces_S32x128_S32 (.inl rfl) rfl) shapeCasts_S32_S32x1)
    (addf zero1 (shapeCast S32x1 (multiReduction .add [1] S32 t 0x00000000#32 reduces_S32x64_S32 (.inl rfl) rfl) shapeCasts_S32_S32x1))

/-- A chunk's two halves folded into an accumulator by maximum. -/
def maxHalves (acc : FVec F S32x128 .f32) (v : FVec F S32x256 .f32) : FVec F S32x128 .f32 :=
  maximumf (maximumf acc (extractStridedSlice S32x128 ![0, 0] v slices_S32x256_o0_0_S32x128)) (extractStridedSlice S32x128 ![0, 128] v slices_S32x256_o0_128_S32x128)

/-- The maximum of a row. -/
def rowMax (acc : FVec F S32x128 .f32) (t : FVec F S32x64 .f32) : FVec F S32x1 .f32 :=
  maximumf (shapeCast S32x1 (multiReduction .maximumf [1] S32 acc 0xFF800000#32 reduces_S32x128_S32 (.inl rfl) rfl) shapeCasts_S32_S32x1)
    (maximumf zero1 (shapeCast S32x1 (multiReduction .maximumf [1] S32 t 0xFF800000#32 reduces_S32x64_S32 (.inl rfl) rfl) shapeCasts_S32_S32x1))

/-- A row of parameters at chunk `c`, for every row of a group. -/
def par (x : Vec F S1x2880 .f32) (c : Fin 11) : FVec F S32x256 .f32 :=
  broadcastTo S32x256 (shapeCast S1x256 (View.ld x (rR c)) shapeCasts_S1x256_S1x256 : FVec F S1x256 .f32) broadcasts_S1x256_S32x256
def parT (x : Vec F S1x2880 .f32) : FVec F S32x64 .f32 :=
  broadcastTo S32x64 (shapeCast S1x64 (View.ld x rRt) shapeCasts_S1x64_S1x64 : FVec F S1x64 .f32) broadcasts_S1x64_S32x64

/-! ## The reduced partials -/

/-- The left operand of group `g`: row `i` holds at column `32 p + i` the scale of partial `p` at the group's token `i`, else 0. -/
def lhs (i : grid0.Coords) (x0 : Vec F S8x6x128 .f32) (g : Fin 4) : FVec F S32x256 .bf16 :=
  truncf .bf16 (select
    (cmpi .eq (andi (iota .tc S32x256 32 [1] iota_S32x256_d1_w32) (broadcast S32x256 31#32)) (iota .tc S32x256 32 [0] iota_S32x256_d0_w32))
    (broadcastTo S32x256 (shapeCast S1x256 (concatenate S1x256 1
      [⟨S1x32, extractStridedSlice S1x32 ![0, 32 * g.val] (shapeCast S1x128 (View.ld x0 (Rect.unit (s := S8x6x128) (k0_off1 i) S1x1x128.size (k0_off1_inb i))) shapeCasts_S1x1x128_S1x128) (sliceG g)⟩,
       ⟨S1x32, extractStridedSlice S1x32 ![0, 32 * g.val] (shapeCast S1x128 (View.ld x0 (Rect.unit (s := S8x6x128) (k0_off2 i) S1x1x128.size (k0_off2_inb i))) shapeCasts_S1x1x128_S1x128) (sliceG g)⟩,
       ⟨S1x32, extractStridedSlice S1x32 ![0, 32 * g.val] (shapeCast S1x128 (View.ld x0 (Rect.unit (s := S8x6x128) (k0_off3 i) S1x1x128.size (k0_off3_inb i))) shapeCasts_S1x1x128_S1x128) (sliceG g)⟩,
       ⟨S1x32, extractStridedSlice S1x32 ![0, 32 * g.val] (shapeCast S1x128 (View.ld x0 (Rect.unit (s := S8x6x128) (k0_off4 i) S1x1x128.size (k0_off4_inb i))) shapeCasts_S1x1x128_S1x128) (sliceG g)⟩,
       ⟨S1x32, extractStridedSlice S1x32 ![0, 32 * g.val] (shapeCast S1x128 (View.ld x0 (Rect.unit (s := S8x6x128) (k0_off5 i) S1x1x128.size (k0_off5_inb i))) shapeCasts_S1x1x128_S1x128) (sliceG g)⟩,
       ⟨S1x32, extractStridedSlice S1x32 ![0, 32 * g.val] (shapeCast S1x128 (View.ld x0 (Rect.unit (s := S8x6x128) (k0_off6 i) S1x1x128.size (k0_off6_inb i))) shapeCasts_S1x1x128_S1x128) (sliceG g)⟩,
       ⟨S1x32, extractStridedSlice S1x32 ![0, 32 * g.val] (shapeCast S1x128 (View.ld x0 (Rect.unit (s := S8x6x128) (k0_off7 i) S1x1x128.size (k0_off7_inb i))) shapeCasts_S1x1x128_S1x128) (sliceG g)⟩,
       ⟨S1x32, extractStridedSlice S1x32 ![0, 32 * g.val] (shapeCast S1x128 (View.ld x0 (Rect.unit (s := S8x6x128) (k0_off8 i) S1x1x128.size (k0_off8_inb i))) shapeCasts_S1x1x128_S1x128) (sliceG g)⟩]
      concatenates_S1x32_S1x32_S1x32_S1x32_S1x32_S1x32_S1x32_S1x32_S1x256_d1 : FVec F S1x256 .f32) shapeCasts_S1x256_S1x256 : FVec F S1x256 .f32) broadcasts_S1x256_S32x256)
    (broadcast S32x256 zero)) bitsLt_bf16_f32

/-- The new residual of group `g` at chunk `c`, -/
def hB (i : grid0.Coords) (x0 : Vec F S8x6x128 .f32) (x1 : Vec F S8x1x128x2880 .fp8e4m3) (x2 : Vec F S1x128x2880 .bf16) (x3 : Vec F S1x2880 .f32)
    (g : Fin 4) (c : Fin 11) : FVec F S32x256 .bf16 :=
  truncf .bf16 (addf (addf
    (matmul dot_S32x256_S256x256_S32x256_1_0_0_1_n_n none (lhs i x0 g)
      (shapeCast S256x256 (shapeCast S8x32x256 (View.ld x1 (rP g c)) shapeCasts_S8x1x32x256_S8x32x256 : FVec F S8x32x256 .fp8e4m3) shapeCasts_S8x32x256_S256x256)
      (constant S32x256 .f32 0x00000000#32))
    (par x3 c))
    (extf .f32 (shapeCast S32x256 (View.ld x2 (rB g c)) shapeCasts_S1x32x256_S32x256 : FVec F S32x256 .bf16) bitsLt_bf16_f32)) bitsLt_bf16_f32

/-- and at the last 64 columns. -/
def hT (i : grid0.Coords) (x0 : Vec F S8x6x128 .f32) (x1 : Vec F S8x1x128x2880 .fp8e4m3) (x2 : Vec F S1x128x2880 .bf16) (x3 : Vec F S1x2880 .f32)
    (g : Fin 4) : FVec F S32x64 .bf16 :=
  truncf .bf16 (addf (addf
    (matmul dot_S32x256_S256x64_S32x64_1_0_0_1_n_n none (lhs i x0 g)
      (shapeCast S256x64 (shapeCast S8x32x64 (View.ld x1 (rPt g)) shapeCasts_S8x1x32x64_S8x32x64 : FVec F S8x32x64 .fp8e4m3) shapeCasts_S8x32x64_S256x64)
      (constant S32x64 .f32 0x00000000#32))
    (parT x3))
    (extf .f32 (shapeCast S32x64 (View.ld x2 (rBt g)) shapeCasts_S1x32x64_S32x64 : FVec F S32x64 .bf16) bitsLt_bf16_f32)) bitsLt_bf16_f32

/-! From here on a group's stages over its new residual: `h` at the chunks and `t` at the last columns. -/

/-- The mean of each row. -/
def mean (h : Fin 11 → FVec F S32x256 .bf16) (t : FVec F S32x64 .bf16) : FVec F S32x1 .f32 :=
  mulf (rowSum (chunks.foldl (fun acc c => addHalves acc (extf .f32 (h c) bitsLt_bf16_f32)) zero128) (extf .f32 t bitsLt_bf16_f32)) (broadcast S32x1 invW)

/-- The pieces of group `g` stored into the residual's block, over the earlier ones. -/
def resOver (h : Fin 11 → FVec F S32x256 .bf16) (t : FVec F S32x64 .bf16) (g : Fin 4)
    (L : List (View.Piece (Elt F) S1x128x2880 .bf16)) : List (View.Piece (Elt F) S1x128x2880 .bf16) :=
  strips.map (fun
    | none => (⟨rBt g, shapeCast S1x32x64 t shapeCasts_S32x64_S1x32x64⟩ : View.Piece (Elt F) S1x128x2880 .bf16)
    | some c => ⟨rB g c, shapeCast S1x32x256 (h c) shapeCasts_S32x256_S1x32x256⟩) ++ L

/-- The deviations from the mean `mu`, the residual read back. -/
def dB (rd : FVec F S1x32x256 .bf16) (mu : FVec F S32x1 .f32) : FVec F S32x256 .f32 :=
  subf (extf .f32 (shapeCast S32x256 rd shapeCasts_S1x32x256_S32x256 : FVec F S32x256 .bf16) bitsLt_bf16_f32) (broadcastTo S32x256 mu broadcasts_S32x1_S32x256)
def dT (rd : FVec F S1x32x64 .bf16) (mu : FVec F S32x1 .f32) : FVec F S32x64 .f32 :=
  subf (extf .f32 (shapeCast S32x64 rd shapeCasts_S1x32x64_S32x64 : FVec F S32x64 .bf16) bitsLt_bf16_f32) (broadcastTo S32x64 mu broadcasts_S32x1_S32x64)

/-- The deviations' pieces of group `g` stored into the scratch, over the earlier ones. -/
def devOver (d : Fin 11 → FVec F S32x256 .f32) (t : FVec F S32x64 .f32) (g : Fin 4)
    (L : List (View.Piece (Elt F) S128x2880 .f32)) : List (View.Piece (Elt F) S128x2880 .f32) :=
  strips.map (fun
    | none => (⟨rSt g, shapeCast S32x64 t shapeCasts_S32x64_S32x64⟩ : View.Piece (Elt F) S128x2880 .f32)
    | some c => ⟨rS g c, shapeCast S32x256 (d c) shapeCasts_S32x256_S32x256⟩) ++ L

/-- The reciprocal standard deviation of each row. -/
def rstd (d : Fin 11 → FVec F S32x256 .f32) (t : FVec F S32x64 .f32) : FVec F S32x1 .f32 :=
  rsqrt (addf (mulf (rowSum (chunks.foldl (fun acc c => addHalves acc (mulf (d c) (d c))) zero128) (mulf t t)) (broadcast S32x1 invW))
    (broadcast S32x1 (Scalar.ofBits .f32 0x358637BD#32)))

/-- The normalized rows, the deviations read back. -/
def yB (rd : FVec F S32x256 .f32) (rs : FVec F S32x1 .f32) (x4 x5 : Vec F S1x2880 .f32) (c : Fin 11) : FVec F S32x256 .f32 :=
  addf (mulf (mulf rd (broadcastTo S32x256 rs broadcasts_S32x1_S32x256)) (par x4 c)) (par x5 c)
def yT (rd : FVec F S32x64 .f32) (rs : FVec F S32x1 .f32) (x4 x5 : Vec F S1x2880 .f32) : FVec F S32x64 .f32 :=
  addf (mulf (mulf rd (broadcastTo S32x64 rs broadcasts_S32x1_S32x64)) (parT x4)) (parT x5)

/-- The scratch's pieces after the third pass over the chunks `cs` (the latest first): the chunk of the scratch read, normalized and stored back. -/
def yList (arg11 : Memref sig .tc .vmem S128x2880 .f32) (rs : FVec F S32x1 .f32) (x4 x5 : Vec F S1x2880 .f32) (g : Fin 4)
    (L : List (View.Piece (Elt F) S128x2880 .f32)) (cs : List (Fin 11)) : List (View.Piece (Elt F) S128x2880 .f32) :=
  List.rec (motive := fun _ => List (View.Piece (Elt F) S128x2880 .f32)) L
    (fun c _ K => ⟨rS g c, shapeCast S32x256 (yB (arg11.view.readCov K (rS g c).toLoadRect) rs x4 x5 c) shapeCasts_S32x256_S32x256⟩ :: K) cs

/-- The maxima of the absolute values after the chunks `cs`. -/
def yMax (arg11 : Memref sig .tc .vmem S128x2880 .f32) (rs : FVec F S32x1 .f32) (x4 x5 : Vec F S1x2880 .f32) (g : Fin 4)
    (L : List (View.Piece (Elt F) S128x2880 .f32)) (cs : List (Fin 11)) : FVec F S32x128 .f32 :=
  List.rec (motive := fun _ => FVec F S32x128 .f32) zero128
    (fun c cs acc => maxHalves acc (absf (yB (arg11.view.readCov (yList arg11 rs x4 x5 g L cs) (rS g c).toLoadRect) rs x4 x5 c))) cs

/-- The chunks from the last. -/
def chunksRev : List (Fin 11) := [⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩]

/-- The last columns of the third pass, -/
def yLast (arg11 : Memref sig .tc .vmem S128x2880 .f32) (rs : FVec F S32x1 .f32) (x4 x5 : Vec F S1x2880 .f32) (g : Fin 4)
    (L : List (View.Piece (Elt F) S128x2880 .f32)) : FVec F S32x64 .f32 :=
  yT (arg11.view.readCov (yList arg11 rs x4 x5 g L chunksRev) (rSt g).toLoadRect) rs x4 x5

/-- the scratch's pieces after it, -/
def yOver (arg11 : Memref sig .tc .vmem S128x2880 .f32) (rs : FVec F S32x1 .f32) (x4 x5 : Vec F S1x2880 .f32) (g : Fin 4)
    (L : List (View.Piece (Elt F) S128x2880 .f32)) : List (View.Piece (Elt F) S128x2880 .f32) :=
  ⟨rSt g, shapeCast S32x64 (yLast arg11 rs x4 x5 g L) shapeCasts_S32x64_S32x64⟩ :: (yList arg11 rs x4 x5 g L chunksRev)

/-- and each row's largest absolute value. -/
def amax (arg11 : Memref sig .tc .vmem S128x2880 .f32) (rs : FVec F S32x1 .f32) (x4 x5 : Vec F S1x2880 .f32) (g : Fin 4)
    (L : List (View.Piece (Elt F) S128x2880 .f32)) : FVec F S32x1 .f32 :=
  rowMax (yMax arg11 rs x4 x5 g L chunksRev) (absf (yLast arg11 rs x4 x5 g L))

/-- The biased exponent of a row's largest absolute value over 448: the number of powers not above it, less one; -/
def biased (a : FVec F S32x1 .f32) : IVec S32x1 32 :=
  subi (shapeCast S32x1 (multiReductionI .add [1] S32
    (select (cmpf .olt (broadcastTo S32x256 (mulf a (broadcast S32x1 (Scalar.ofBits .f32 0x3B124925#32))) broadcasts_S32x1_S32x256)
        (bitcastToFloat .f32 (shli (iota .tc S32x256 32 [1] iota_S32x256_d1_w32) (broadcast S32x256 23#32)) : FVec F S32x256 .f32))
      (broadcast S32x256 0#32 : IVec S32x256 32) (broadcast S32x256 1#32)) 0#32 reduces_S32x256_S32 rfl) shapeCasts_S32_S32x1) (broadcast S32x1 1#32)

/-- the scale's exponent; -/
def expo (b : IVec S32x1 32) : IVec S32x1 32 :=
  select (cmpi .eq b (broadcast S32x1 0#32)) (broadcast S32x1 0#32) (subi b (broadcast S32x1 126#32))

/-- the scale; -/
def scale (e : IVec S32x1 32) : FVec F S32x1 .f32 :=
  bitcastToFloat .f32 (shli (addi e (broadcast S32x1 127#32)) (broadcast S32x1 23#32))

/-- and its reciprocal. -/
def invScale (e : IVec S32x1 32) : FVec F S32x1 .f32 :=
  bitcastToFloat .f32 (shli (subi (broadcast S32x1 127#32) e) (broadcast S32x1 23#32))

/-- The codes of a chunk, the normalized rows read back. -/
def qB (rd : FVec F S32x256 .f32) (inv : FVec F S32x1 .f32) : FVec F S32x256 .fp8e4m3 :=
  truncf .fp8e4m3 (minimumf (broadcast S32x256 (Scalar.ofBits .f32 0x43E00000#32))
    (maximumf (broadcast S32x256 (Scalar.ofBits .f32 0xC3E00000#32)) (mulf rd (broadcastTo S32x256 inv broadcasts_S32x1_S32x256)))) bitsLt_fp8e4m3_f32
def qT (rd : FVec F S32x64 .f32) (inv : FVec F S32x1 .f32) : FVec F S32x64 .fp8e4m3 :=
  truncf .fp8e4m3 (minimumf (broadcast S32x64 (Scalar.ofBits .f32 0x43E00000#32))
    (maximumf (broadcast S32x64 (Scalar.ofBits .f32 0xC3E00000#32)) (mulf rd (broadcastTo S32x64 inv broadcasts_S32x1_S32x64)))) bitsLt_fp8e4m3_f32

/-- The codes' pieces of group `g`, over the earlier ones. -/
def codesOver (q : Fin 11 → FVec F S32x256 .fp8e4m3) (t : FVec F S32x64 .fp8e4m3) (g : Fin 4)
    (L : List (View.Piece (Elt F) S1x128x2880 .fp8e4m3)) : List (View.Piece (Elt F) S1x128x2880 .fp8e4m3) :=
  strips.map (fun
    | none => (⟨rBt g, shapeCast S1x32x64 t shapeCasts_S32x64_S1x32x64⟩ : View.Piece (Elt F) S1x128x2880 .fp8e4m3)
    | some c => ⟨rB g c, shapeCast S1x32x256 (q c) shapeCasts_S32x256_S1x32x256⟩) ++ L

/-- The scales of group `g` put at the group's columns and added onto the earlier groups'. -/
def scaleCols (s : FVec F S32x1 .f32) (g : Fin 4) (acc : FVec F S32x128 .f32) : FVec F S32x128 .f32 :=
  addf acc (select (cmpi .eq (iota .tc S32x128 32 [1] iota_S32x128_d1_w32)
      (addi (iota .tc S32x128 32 [0] iota_S32x128_d0_w32) (broadcast S32x128 (BitVec.ofNat 32 (32 * g.val)))))
    (broadcastTo S32x128 (shapeCast S32x1 s shapeCasts_S32x1_S32x1 : FVec F S32x1 .f32) broadcasts_S32x1_S32x128) zero128)

/-! ## The groups in turn -/

variable (i : grid0.Coords)
  (arg8 : Memref sig .tc .vmem S1x128x2880 .bf16) (arg11 : Memref sig .tc .vmem S128x2880 .f32)
  (x0 : Vec F S8x6x128 .f32) (x1 : Vec F S8x1x128x2880 .fp8e4m3) (x2 : Vec F S1x128x2880 .bf16)
  (x3 : Vec F S1x2880 .f32) (x4 : Vec F S1x2880 .f32) (x5 : Vec F S1x2880 .f32)

/-- The residual's pieces after group `g`, over `L`. -/
def gRes (g : Fin 4) (L : List (View.Piece (Elt F) S1x128x2880 .bf16)) : List (View.Piece (Elt F) S1x128x2880 .bf16) :=
  resOver (hB i x0 x1 x2 x3 g) (hT i x0 x1 x2 x3 g) g L
/-- Group `g`'s means; -/
def gMean (g : Fin 4) : FVec F S32x1 .f32 := mean (hB i x0 x1 x2 x3 g) (hT i x0 x1 x2 x3 g)
/-- its deviations; -/
def gDev (g : Fin 4) (L : List (View.Piece (Elt F) S1x128x2880 .bf16)) (c : Fin 11) : FVec F S32x256 .f32 :=
  dB (arg8.view.readCov (gRes i x0 x1 x2 x3 g L) (rB g c).toLoadRect) (gMean i x0 x1 x2 x3 g)
def gDevT (g : Fin 4) (L : List (View.Piece (Elt F) S1x128x2880 .bf16)) : FVec F S32x64 .f32 :=
  dT (arg8.view.readCov (gRes i x0 x1 x2 x3 g L) (rBt g).toLoadRect) (gMean i x0 x1 x2 x3 g)
/-- its reciprocal standard deviations; -/
def gRstd (g : Fin 4) (L : List (View.Piece (Elt F) S1x128x2880 .bf16)) : FVec F S32x1 .f32 :=
  rstd (gDev i arg8 x0 x1 x2 x3 g L) (gDevT i arg8 x0 x1 x2 x3 g L)
/-- the scratch's pieces after its second pass; -/
def gScr (g : Fin 4) (L : List (View.Piece (Elt F) S1x128x2880 .bf16)) (M : List (View.Piece (Elt F) S128x2880 .f32)) :
    List (View.Piece (Elt F) S128x2880 .f32) :=
  devOver (gDev i arg8 x0 x1 x2 x3 g L) (gDevT i arg8 x0 x1 x2 x3 g L) g M
/-- after its third; -/
def gScr' (g : Fin 4) (L : List (View.Piece (Elt F) S1x128x2880 .bf16)) (M : List (View.Piece (Elt F) S128x2880 .f32)) :
    List (View.Piece (Elt F) S128x2880 .f32) :=
  yOver arg11 (gRstd i arg8 x0 x1 x2 x3 g L) x4 x5 g (gScr i arg8 x0 x1 x2 x3 g L M)
/-- its scales' exponents. -/
def gExpo (g : Fin 4) (L : List (View.Piece (Elt F) S1x128x2880 .bf16)) (M : List (View.Piece (Elt F) S128x2880 .f32)) : IVec S32x1 32 :=
  expo (biased (amax arg11 (gRstd i arg8 x0 x1 x2 x3 g L) x4 x5 g (gScr i arg8 x0 x1 x2 x3 g L M)))

/-- Its codes' pieces, over `N`. -/
def gCodes (g : Fin 4) (L : List (View.Piece (Elt F) S1x128x2880 .bf16)) (M : List (View.Piece (Elt F) S128x2880 .f32))
    (N : List (View.Piece (Elt F) S1x128x2880 .fp8e4m3)) : List (View.Piece (Elt F) S1x128x2880 .fp8e4m3) :=
  codesOver
    (fun c => qB (arg11.view.readCov (gScr' i arg8 arg11 x0 x1 x2 x3 x4 x5 g L M) (rS g c).toLoadRect)
      (invScale (gExpo i arg8 arg11 x0 x1 x2 x3 x4 x5 g L M)))
    (qT (arg11.view.readCov (gScr' i arg8 arg11 x0 x1 x2 x3 x4 x5 g L M) (rSt g).toLoadRect)
      (invScale (gExpo i arg8 arg11 x0 x1 x2 x3 x4 x5 g L M))) g N

/-! What the groups `gs` (the latest first) leave, in turn: the residual's pieces, -/
def resL (gs : List (Fin 4)) : List (View.Piece (Elt F) S1x128x2880 .bf16) :=
  List.rec (motive := fun _ => List (View.Piece (Elt F) S1x128x2880 .bf16)) [] (fun g _ L => gRes i x0 x1 x2 x3 g L) gs
/-- the scratch's, -/
def scrL (gs : List (Fin 4)) : List (View.Piece (Elt F) S128x2880 .f32) :=
  List.rec (motive := fun _ => List (View.Piece (Elt F) S128x2880 .f32)) []
    (fun g gs M => gScr' i arg8 arg11 x0 x1 x2 x3 x4 x5 g (resL i x0 x1 x2 x3 gs) M) gs
/-- the codes', -/
def codesL (gs : List (Fin 4)) : List (View.Piece (Elt F) S1x128x2880 .fp8e4m3) :=
  List.rec (motive := fun _ => List (View.Piece (Elt F) S1x128x2880 .fp8e4m3)) []
    (fun g gs N => gCodes i arg8 arg11 x0 x1 x2 x3 x4 x5 g (resL i x0 x1 x2 x3 gs) (scrL i arg8 arg11 x0 x1 x2 x3 x4 x5 gs) N) gs
/-- and the scales' columns. -/
def colsL (gs : List (Fin 4)) : FVec F S32x128 .f32 :=
  List.rec (motive := fun _ => FVec F S32x128 .f32) zero128
    (fun g gs acc => scaleCols (scale (gExpo i arg8 arg11 x0 x1 x2 x3 x4 x5 g (resL i x0 x1 x2 x3 gs) (scrL i arg8 arg11 x0 x1 x2 x3 x4 x5 gs))) g acc) gs

/-- The four groups, the latest first. -/
def groups : List (Fin 4) := [⟨3, by decide⟩, ⟨2, by decide⟩, ⟨1, by decide⟩, ⟨0, by decide⟩]

/-- The row of scales. -/
def scalesRow (cols : FVec F S32x128 .f32) : FVec F S1x128 .f32 :=
  shapeCast S1x128 (multiReduction .add [0] S128 cols 0x00000000#32 reduces_S32x128_S128 (.inl rfl) rfl) shapeCasts_S128_S1x128

end Cert.KernelIdeal.Body

end
-- ==== Proof.Id.lean ====
/- The body's run leaves what the stages compute: the pieces found by running the body are those of `after`. -/
module

public import proofs.«01_k».proof.Proof.Ops

@[expose] public section

set_option maxRecDepth 16384

noncomputable section

namespace Cert.KernelIdeal.Body

open Idealize.ShloMosaic Idealize.ShloMosaic.TcCoe
open Idealize.SL.Sem
open Cert.KernelIdeal.Gen

variable {F : FTy → Type} [FloatOps F] [Named F]

variable (c : Dev nD) (i : grid0.Coords)
  (arg2 : Memref sig .tc .vmem S8x6x128 .f32) (harg2 : arg2.IsWhole)
  (arg3 : Memref sig .tc .vmem S8x1x128x2880 .fp8e4m3) (harg3 : arg3.IsWhole)
  (arg4 : Memref sig .tc .vmem S1x128x2880 .bf16) (harg4 : arg4.IsWhole)
  (arg5 : Memref sig .tc .vmem S1x2880 .f32) (harg5 : arg5.IsWhole)
  (arg6 : Memref sig .tc .vmem S1x2880 .f32) (harg6 : arg6.IsWhole)
  (arg7 : Memref sig .tc .vmem S1x2880 .f32) (harg7 : arg7.IsWhole)
  (arg8 : Memref sig .tc .vmem S1x128x2880 .bf16) (harg8 : arg8.IsWhole)
  (arg9 : Memref sig .tc .vmem S1x128x2880 .fp8e4m3) (harg9 : arg9.IsWhole)
  (arg10 : Memref sig .tc .vmem S6x128 .f32) (harg10 : arg10.IsWhole)
  (arg11 : Memref sig .tc .vmem S128x2880 .f32) (harg11 : arg11.IsWhole)
  (x0 : Vec F S8x6x128 .f32) (x1 : Vec F S8x1x128x2880 .fp8e4m3) (x2 : Vec F S1x128x2880 .bf16)
  (x3 : Vec F S1x2880 .f32) (x4 : Vec F S1x2880 .f32) (x5 : Vec F S1x2880 .f32)

theorem yList_cons (rs : FVec F S32x1 .f32) (y4 y5 : Vec F S1x2880 .f32) (g : Fin 4) (L : List (View.Piece (Elt F) S128x2880 .f32)) (k : Fin 11) (ks : List (Fin 11)) :
    yList arg11 rs y4 y5 g L (k :: ks) = ⟨rS g k, shapeCast S32x256 (yB (arg11.view.readCov (yList arg11 rs y4 y5 g L ks) (rS g k).toLoadRect) rs y4 y5 k) shapeCasts_S32x256_S32x256⟩ :: yList arg11 rs y4 y5 g L ks := rfl

theorem yMax_cons (rs : FVec F S32x1 .f32) (y4 y5 : Vec F S1x2880 .f32) (g : Fin 4) (L : List (View.Piece (Elt F) S128x2880 .f32)) (k : Fin 11) (ks : List (Fin 11)) :
    yMax arg11 rs y4 y5 g L (k :: ks) = maxHalves (yMax arg11 rs y4 y5 g L ks) (absf (yB (arg11.view.readCov (yList arg11 rs y4 y5 g L ks) (rS g k).toLoadRect) rs y4 y5 k)) := rfl

set_option maxHeartbeats 4000000 in
/-- Group 0: the scratch's pieces and the exponents are the stage's. -/
theorem group0 : run.sl.HS0_24 c i arg2 harg2 arg3 harg3 arg4 harg4 arg5 harg5 arg6 harg6 arg7 harg7 arg8 arg11 x0 x1 x2 x3 x4 x5 = gScr' i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨0, by decide⟩ (resL i (arg2.view.read (Elt F) (harg2.unread x0)) (arg3.view.read (Elt F) (harg3.unread x1)) (arg4.view.read (Elt F) (harg4.unread x2)) (arg5.view.read (Elt F) (harg5.unread x3)) []) []
    ∧ run.sl.v721 c i arg2 harg2 arg3 harg3 arg4 harg4 arg5 harg5 arg6 harg6 arg7 harg7 arg8 arg11 x0 x1 x2 x3 x4 x5 = gExpo i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨0, by decide⟩ (resL i (arg2.view.read (Elt F) (harg2.unread x0)) (arg3.view.read (Elt F) (harg3.unread x1)) (arg4.view.read (Elt F) (harg4.unread x2)) (arg5.view.read (Elt F) (harg5.unread x3)) []) [] := by
  have s : run.sl.HS0_12 c i arg2 harg2 arg3 harg3 arg4 harg4 arg5 harg5 arg8 x0 x1 x2 x3 = gScr i arg8 (arg2.view.read (Elt F) (harg2.unread x0)) (arg3.view.read (Elt F) (harg3.unread x1)) (arg4.view.read (Elt F) (harg4.unread x2)) (arg5.view.read (Elt F) (harg5.unread x3)) ⟨0, by decide⟩ (resL i (arg2.view.read (Elt F) (harg2.unread x0)) (arg3.view.read (Elt F) (harg3.unread x1)) (arg4.view.read (Elt F) (harg4.unread x2)) (arg5.view.read (Elt F) (harg5.unread x3)) []) [] := rfl
  have r : (run.sl.r_3 c i arg2 harg2 arg3 harg3 arg4 harg4 arg5 harg5 arg8 x0 x1 x2 x3) = gRstd i arg8 (arg2.view.read (Elt F) (harg2.unread x0)) (arg3.view.read (Elt F) (harg3.unread x1)) (arg4.view.read (Elt F) (harg4.unread x2)) (arg5.view.read (Elt F) (harg5.unread x3)) ⟨0, by decide⟩ (resL i (arg2.view.read (Elt F) (harg2.unread x0)) (arg3.view.read (Elt F) (harg3.unread x1)) (arg4.view.read (Elt F) (harg4.unread x2)) (arg5.view.read (Elt F) (harg5.unread x3)) []) := rfl
  have a0 : run.sl.HS0_13 c i arg2 harg2 arg3 harg3 arg4 harg4 arg5 harg5 arg6 harg6 arg7 harg7 arg8 arg11 x0 x1 x2 x3 x4 x5 = yList arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨0, by decide⟩] := rfl
  have m0 : run.sl.r_4 c i arg2 harg2 arg3 harg3 arg4 harg4 arg5 harg5 arg6 harg6 arg7 harg7 arg8 arg11 x0 x1 x2 x3 x4 x5 = yMax arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨0, by decide⟩] := rfl
  have a1 : run.sl.HS0_14 c i arg2 harg2 arg3 harg3 arg4 harg4 arg5 harg5 arg6 harg6 arg7 harg7 arg8 arg11 x0 x1 x2 x3 x4 x5 = yList arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨1, by decide⟩, ⟨0, by decide⟩] := by
    rw [yList_cons, ← a0]; rfl
  have m1 : run.sl.v508 c i arg2 harg2 arg3 harg3 arg4 harg4 arg5 harg5 arg6 harg6 arg7 harg7 arg8 arg11 x0 x1 x2 x3 x4 x5 = yMax arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨1, by decide⟩, ⟨0, by decide⟩] := by
    rw [yMax_cons, ← a0, ← m0]; rfl
  have a2 : run.sl.HS0_15 c i arg2 harg2 arg3 harg3 arg4 harg4 arg5 harg5 arg6 harg6 arg7 harg7 arg8 arg11 x0 x1 x2 x3 x4 x5 = yList arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨2, by decide⟩, ⟨1, by decide⟩, ⟨0, by decide⟩] := by
    rw [yList_cons, ← a1]; rfl
  have m2 : run.sl.v527 c i arg2 harg2 arg3 harg3 arg4 harg4 arg5 harg5 arg6 harg6 arg7 harg7 arg8 arg11 x0 x1 x2 x3 x4 x5 = yMax arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨2, by decide⟩, ⟨1, by decide⟩, ⟨0, by decide⟩] := by
    rw [yMax_cons, ← a1, ← m1]; rfl
  have a3 : run.sl.HS0_16 c i arg2 harg2 arg3 harg3 arg4 harg4 arg5 harg5 arg6 harg6 arg7 harg7 arg8 arg11 x0 x1 x2 x3 x4 x5 = yList arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨3, by decide⟩, ⟨2, by decide⟩, ⟨1, by decide⟩, ⟨0, by decide⟩] := by
    rw [yList_cons, ← a2]; rfl
  have m3 : run.sl.v546 c i arg2 harg2 arg3 harg3 arg4 harg4 arg5 harg5 arg6 harg6 arg7 harg7 arg8 arg11 x0 x1 x2 x3 x4 x5 = yMax arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨3, by decide⟩, ⟨2, by decide⟩, ⟨1, by decide⟩, ⟨0, by decide⟩] := by
    rw [yMax_cons, ← a2, ← m2]; rfl
  have a4 : run.sl.HS0_17 c i arg2 harg2 arg3 harg3 arg4 harg4 arg5 harg5 arg6 harg6 arg7 harg7 arg8 arg11 x0 x1 x2 x3 x4 x5 = yList arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨4, by decide⟩, ⟨3, by decide⟩, ⟨2, by decide⟩, ⟨1, by decide⟩, ⟨0, by decide⟩] := by
    rw [yList_cons, ← a3]; rfl
  have m4 : run.sl.v565 c i arg2 harg2 arg3 harg3 arg4 harg4 arg5 harg5 arg6 harg6 arg7 harg7 arg8 arg11 x0 x1 x2 x3 x4 x5 = yMax arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨4, by decide⟩, ⟨3, by decide⟩, ⟨2, by decide⟩, ⟨1, by decide⟩, ⟨0, by decide⟩] := by
    rw [yMax_cons, ← a3, ← m3]; rfl
  have a5 : run.sl.HS0_18 c i arg2 harg2 arg3 harg3 arg4 harg4 arg5 harg5 arg6 harg6 arg7 harg7 arg8 arg11 x0 x1 x2 x3 x4 x5 = yList arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨5, by decide⟩, ⟨4, by decide⟩, ⟨3, by decide⟩, ⟨2, by decide⟩, ⟨1, by decide⟩, ⟨0, by decide⟩] := by
    rw [yList_cons, ← a4]; rfl
  have m5 : run.sl.v584 c i arg2 harg2 arg3 harg3 arg4 harg4 arg5 harg5 arg6 harg6 arg7 harg7 arg8 arg11 x0 x1 x2 x3 x4 x5 = yMax arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨5, by decide⟩, ⟨4, by decide⟩, ⟨3, by decide⟩, ⟨2, by decide⟩, ⟨1, by decide⟩, ⟨0, by decide⟩] := by
    rw [yMax_cons, ← a4, ← m4]; rfl
  have a6 : run.sl.HS0_19 c i arg2 harg2 arg3 harg3 arg4 harg4 arg5 harg5 arg6 harg6 arg7 harg7 arg8 arg11 x0 x1 x2 x3 x4 x5 = yList arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨6, by decide⟩, ⟨5, by decide⟩, ⟨4, by decide⟩, ⟨3, by decide⟩, ⟨2, by decide⟩, ⟨1, by decide⟩, ⟨0, by decide⟩] := by
    rw [yList_cons, ← a5]; rfl
  have m6 : run.sl.v603 c i arg2 harg2 arg3 harg3 arg4 harg4 arg5 harg5 arg6 harg6 arg7 harg7 arg8 arg11 x0 x1 x2 x3 x4 x5 = yMax arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨6, by decide⟩, ⟨5, by decide⟩, ⟨4, by decide⟩, ⟨3, by decide⟩, ⟨2, by decide⟩, ⟨1, by decide⟩, ⟨0, by decide⟩] := by
    rw [yMax_cons, ← a5, ← m5]; rfl
  have a7 : run.sl.HS0_20 c i arg2 harg2 arg3 harg3 arg4 harg4 arg5 harg5 arg6 harg6 arg7 harg7 arg8 arg11 x0 x1 x2 x3 x4 x5 = yList arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨7, by decide⟩, ⟨6, by decide⟩, ⟨5, by decide⟩, ⟨4, by decide⟩, ⟨3, by decide⟩, ⟨2, by decide⟩, ⟨1, by decide⟩, ⟨0, by decide⟩] := by
    rw [yList_cons, ← a6]; rfl
  have m7 : run.sl.v622 c i arg2 harg2 arg3 harg3 arg4 harg4 arg5 harg5 arg6 harg6 arg7 harg7 arg8 arg11 x0 x1 x2 x3 x4 x5 = yMax arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨7, by decide⟩, ⟨6, by decide⟩, ⟨5, by decide⟩, ⟨4, by decide⟩, ⟨3, by decide⟩, ⟨2, by decide⟩, ⟨1, by decide⟩, ⟨0, by decide⟩] := by
    rw [yMax_cons, ← a6, ← m6]; rfl
  have a8 : run.sl.HS0_21 c i arg2 harg2 arg3 harg3 arg4 harg4 arg5 harg5 arg6 harg6 arg7 harg7 arg8 arg11 x0 x1 x2 x3 x4 x5 = yList arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a7]; rfl
  have m8 : run.sl.v641 c i arg2 harg2 arg3 harg3 arg4 harg4 arg5 harg5 arg6 harg6 arg7 harg7 arg8 arg11 x0 x1 x2 x3 x4 x5 = yMax arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a7, ← m7]; rfl
  have a9 : run.sl.HS0_22 c i arg2 harg2 arg3 harg3 arg4 harg4 arg5 harg5 arg6 harg6 arg7 harg7 arg8 arg11 x0 x1 x2 x3 x4 x5 = yList arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a8]; rfl
  have m9 : run.sl.v660 c i arg2 harg2 arg3 harg3 arg4 harg4 arg5 harg5 arg6 harg6 arg7 harg7 arg8 arg11 x0 x1 x2 x3 x4 x5 = yMax arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a8, ← m8]; rfl
  have a10 : run.sl.HS0_23 c i arg2 harg2 arg3 harg3 arg4 harg4 arg5 harg5 arg6 harg6 arg7 harg7 arg8 arg11 x0 x1 x2 x3 x4 x5 = yList arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a9]; rfl
  have m10 : run.sl.v679 c i arg2 harg2 arg3 harg3 arg4 harg4 arg5 harg5 arg6 harg6 arg7 harg7 arg8 arg11 x0 x1 x2 x3 x4 x5 = yMax arg11 (run.sl.r_3 c i arg2 harg2 arg3 harg3 arg4 harg4 arg5 harg5 arg8 x0 x1 x2 x3) (arg6.view.read (Elt F) (harg6.unread x4)) (arg7.view.read (Elt F) (harg7.unread x5)) ⟨0, by decide⟩ (run.sl.HS0_12 c i arg2 harg2 arg3 harg3 arg4 harg4 arg5 harg5 arg8 x0 x1 x2 x3) [⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a9, ← m9]; rfl
  constructor
  · rw [gScr', ← s, ← r, yOver, yLast, chunksRev, ← a10]; rfl
  · rw [gExpo, ← s, ← r, amax, yLast, chunksRev, ← a10, ← m10]; rfl

set_option maxHeartbeats 4000000 in
/-- Group 1: the scratch's pieces and the exponents are the stage's. -/
theorem group1 : run.sl.HS0_48 c i arg2 harg2 arg3 harg3 arg4 harg4 arg5 harg5 arg6 harg6 arg7 harg7 arg8 arg11 x0 x1 x2 x3 x4 x5 = gScr' i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨1, by decide⟩ (resL i (arg2.view.read (Elt F) (harg2.unread x0)) (arg3.view.read (Elt F) (harg3.unread x1)) (arg4.view.read (Elt F) (harg4.unread x2)) (arg5.view.read (Elt F) (harg5.unread x3)) [⟨0, by decide⟩]) (run.sl.HS0_24 c i arg2 harg2 arg3 harg3 arg4 harg4 arg5 harg5 arg6 harg6 arg7 harg7 arg8 arg11 x0 x1 x2 x3 x4 x5)
    ∧ run.sl.v1561 c i arg2 harg2 arg3 harg3 arg4 harg4 arg5 harg5 arg6 harg6 arg7 harg7 arg8 arg11 x0 x1 x2 x3 x4 x5 = gExpo i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨1, by decide⟩ (resL i (arg2.view.read (Elt F) (harg2.unread x0)) (arg3.view.read (Elt F) (harg3.unread x1)) (arg4.view.read (Elt F) (harg4.unread x2)) (arg5.view.read (Elt F) (harg5.unread x3)) [⟨0, by decide⟩]) (run.sl.HS0_24 c i arg2 harg2 arg3 harg3 arg4 harg4 arg5 harg5 arg6 harg6 arg7 harg7 arg8 arg11 x0 x1 x2 x3 x4 x5) := by
  have s : run.sl.HS0_36 c i arg2 harg2 arg3 harg3 arg4 harg4 arg5 harg5 arg6 harg6 arg7 harg7 arg8 arg11 x0 x1 x2 x3 x4 x5 = gScr i arg8 (arg2.view.read (Elt F) (harg2.unread x0)) (arg3.view.read (Elt F) (harg3.unread x1)) (arg4.view.read (Elt F) (harg4.unread x2)) (arg5.view.read (Elt F) (harg5.unread x3)) ⟨1, by decide⟩ (resL i (arg2.view.read (Elt F) (harg2.unread x0)) (arg3.view.read (Elt F) (harg3.unread x1)) (arg4.view.read (Elt F) (harg4.unread x2)) (arg5.view.read (Elt F) (harg5.unread x3)) [⟨0, by decide⟩]) (run.sl.HS0_24 c i arg2 harg2 arg3 harg3 arg4 harg4 arg5 harg5 arg6 harg6 arg7 harg7 arg8 arg11 x0 x1 x2 x3 x4 x5) := rfl
  have r : (run.sl.r_10 c i arg2 harg2 arg3 harg3 arg4 harg4 arg5 harg5 arg8 x0 x1 x2 x3) = gRstd i arg8 (arg2.view.read (Elt F) (harg2.unread x0)) (arg3.view.read (Elt F) (harg3.unread x1)) (arg4.view.read (Elt F) (harg4.unread x2)) (arg5.view.read (Elt F) (harg5.unread x3)) ⟨1, by decide⟩ (resL i (arg2.view.read (Elt F) (harg2.unread x0)) (arg3.view.read (Elt F) (harg3.unread x1)) (arg4.view.read (Elt F) (harg4.unread x2)) (arg5.view.read (Elt F) (harg5.unread x3)) [⟨0, by decide⟩]) := rfl
  have a0 : run.sl.HS0_37 c i arg2 harg2 arg3 harg3 arg4 harg4 arg5 harg5 arg6 harg6 arg7 harg7 arg8 arg11 x0 x1 x2 x3 x4 x5 = yList arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨0, by decide⟩] := rfl
  have m0 : run.sl.r_11 c i arg2 harg2 arg3 harg3 arg4 harg4 arg5 harg5 arg6 harg6 arg7 harg7 arg8 arg11 x0 x1 x2 x3 x4 x5 = yMax arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨0, by decide⟩] := rfl
  have a1 : run.sl.HS0_38 c i arg2 harg2 arg3 harg3 arg4 harg4 arg5 harg5 arg6 harg6 arg7 harg7 arg8 arg11 x0 x1 x2 x3 x4 x5 = yList arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨1, by decide⟩, ⟨0, by decide⟩] := by
    rw [yList_cons, ← a0]; rfl
  have m1 : run.sl.v1348 c i arg2 harg2 arg3 harg3 arg4 harg4 arg5 harg5 arg6 harg6 arg7 harg7 arg8 arg11 x0 x1 x2 x3 x4 x5 = yMax arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨1, by decide⟩, ⟨0, by decide⟩] := by
    rw [yMax_cons, ← a0, ← m0]; rfl
  have a2 : run.sl.HS0_39 c i arg2 harg2 arg3 harg3 arg4 harg4 arg5 harg5 arg6 harg6 arg7 harg7 arg8 arg11 x0 x1 x2 x3 x4 x5 = yList arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨2, by decide⟩, ⟨1, by decide⟩, ⟨0, by decide⟩] := by
    rw [yList_cons, ← a1]; rfl
  have m2 : run.sl.v1367 c i arg2 harg2 arg3 harg3 arg4 harg4 arg5 harg5 arg6 harg6 arg7 harg7 arg8 arg11 x0 x1 x2 x3 x4 x5 = yMax arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨2, by decide⟩, ⟨1, by decide⟩, ⟨0, by decide⟩] := by
    rw [yMax_cons, ← a1, ← m1]; rfl
  have a3 : run.sl.HS0_40 c i arg2 harg2 arg3 harg3 arg4 harg4 arg5 harg5 arg6 harg6 arg7 harg7 arg8 arg11 x0 x1 x2 x3 x4 x5 = yList arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨3, by decide⟩, ⟨2, by decide⟩, ⟨1, by decide⟩, ⟨0, by decide⟩] := by
    rw [yList_cons, ← a2]; rfl
  have m3 : run.sl.v1386 c i arg2 harg2 arg3 harg3 arg4 harg4 arg5 harg5 arg6 harg6 arg7 harg7 arg8 arg11 x0 x1 x2 x3 x4 x5 = yMax arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨3, by decide⟩, ⟨2, by decide⟩, ⟨1, by decide⟩, ⟨0, by decide⟩] := by
    rw [yMax_cons, ← a2, ← m2]; rfl
  have a4 : run.sl.HS0_41 c i arg2 harg2 arg3 harg3 arg4 harg4 arg5 harg5 arg6 harg6 arg7 harg7 arg8 arg11 x0 x1 x2 x3 x4 x5 = yList arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨4, by decide⟩, ⟨3, by decide⟩, ⟨2, by decide⟩, ⟨1, by decide⟩, ⟨0, by decide⟩] := by
    rw [yList_cons, ← a3]; rfl
  have m4 : run.sl.v1405 c i arg2 harg2 arg3 harg3 arg4 harg4 arg5 harg5 arg6 harg6 arg7 harg7 arg8 arg11 x0 x1 x2 x3 x4 x5 = yMax arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨4, by decide⟩, ⟨3, by decide⟩, ⟨2, by decide⟩, ⟨1, by decide⟩, ⟨0, by decide⟩] := by
    rw [yMax_cons, ← a3, ← m3]; rfl
  have a5 : run.sl.HS0_42 c i arg2 harg2 arg3 harg3 arg4 harg4 arg5 harg5 arg6 harg6 arg7 harg7 arg8 arg11 x0 x1 x2 x3 x4 x5 = yList arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨5, by decide⟩, ⟨4, by decide⟩, ⟨3, by decide⟩, ⟨2, by decide⟩, ⟨1, by decide⟩, ⟨0, by decide⟩] := by
    rw [yList_cons, ← a4]; rfl
  have m5 : run.sl.v1424 c i arg2 harg2 arg3 harg3 arg4 harg4 arg5 harg5 arg6 harg6 arg7 harg7 arg8 arg11 x0 x1 x2 x3 x4 x5 = yMax arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨5, by decide⟩, ⟨4, by decide⟩, ⟨3, by decide⟩, ⟨2, by decide⟩, ⟨1, by decide⟩, ⟨0, by decide⟩] := by
    rw [yMax_cons, ← a4, ← m4]; rfl
  have a6 : run.sl.HS0_43 c i arg2 harg2 arg3 harg3 arg4 harg4 arg5 harg5 arg6 harg6 arg7 harg7 arg8 arg11 x0 x1 x2 x3 x4 x5 = yList arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨6, by decide⟩, ⟨5, by decide⟩, ⟨4, by decide⟩, ⟨3, by decide⟩, ⟨2, by decide⟩, ⟨1, by decide⟩, ⟨0, by decide⟩] := by
    rw [yList_cons, ← a5]; rfl
  have m6 : run.sl.v1443 c i arg2 harg2 arg3 harg3 arg4 harg4 arg5 harg5 arg6 harg6 arg7 harg7 arg8 arg11 x0 x1 x2 x3 x4 x5 = yMax arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨6, by decide⟩, ⟨5, by decide⟩, ⟨4, by decide⟩, ⟨3, by decide⟩, ⟨2, by decide⟩, ⟨1, by decide⟩, ⟨0, by decide⟩] := by
    rw [yMax_cons, ← a5, ← m5]; rfl
  have a7 : run.sl.HS0_44 c i arg2 harg2 arg3 harg3 arg4 harg4 arg5 harg5 arg6 harg6 arg7 harg7 arg8 arg11 x0 x1 x2 x3 x4 x5 = yList arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨7, by decide⟩, ⟨6, by decide⟩, ⟨5, by decide⟩, ⟨4, by decide⟩, ⟨3, by decide⟩, ⟨2, by decide⟩, ⟨1, by decide⟩, ⟨0, by decide⟩] := by
    rw [yList_cons, ← a6]; rfl
  have m7 : run.sl.v1462 c i arg2 harg2 arg3 harg3 arg4 harg4 arg5 harg5 arg6 harg6 arg7 harg7 arg8 arg11 x0 x1 x2 x3 x4 x5 = yMax arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨7, by decide⟩, ⟨6, by decide⟩, ⟨5, by decide⟩, ⟨4, by decide⟩, ⟨3, by decide⟩, ⟨2, by decide⟩, ⟨1, by decide⟩, ⟨0, by decide⟩] := by
    rw [yMax_cons, ← a6, ← m6]; rfl
  have a8 : run.sl.HS0_45 c i arg2 harg2 arg3 harg3 arg4 harg4 arg5 harg5 arg6 harg6 arg7 harg7 arg8 arg11 x0 x1 x2 x3 x4 x5 = yList arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a7]; rfl
  have m8 : run.sl.v1481 c i arg2 harg2 arg3 harg3 arg4 harg4 arg5 harg5 arg6 harg6 arg7 harg7 arg8 arg11 x0 x1 x2 x3 x4 x5 = yMax arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a7, ← m7]; rfl
  have a9 : run.sl.HS0_46 c i arg2 harg2 arg3 harg3 arg4 harg4 arg5 harg5 arg6 harg6 arg7 harg7 arg8 arg11 x0 x1 x2 x3 x4 x5 = yList arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a8]; rfl
  have m9 : run.sl.v1500 c i arg2 harg2 arg3 harg3 arg4 harg4 arg5 harg5 arg6 harg6 arg7 harg7 arg8 arg11 x0 x1 x2 x3 x4 x5 = yMax arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a8, ← m8]; rfl
  have a10 : run.sl.HS0_47 c i arg2 harg2 arg3 harg3 arg4 harg4 arg5 harg5 arg6 harg6 arg7 harg7 arg8 arg11 x0 x1 x2 x3 x4 x5 = yList arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a9]; rfl
  have m10 : run.sl.v1519 c i arg2 harg2 arg3 harg3 arg4 harg4 arg5 harg5 arg6 harg6 arg7 harg7 arg8 arg11 x0 x1 x2 x3 x4 x5 = yMax arg11 (run.sl.r_10 c i arg2 harg2 arg3 harg3 arg4 harg4 arg5 harg5 arg8 x0 x1 x2 x3) (arg6.view.read (Elt F) (harg6.unread x4)) (arg7.view.read (Elt F) (harg7.unread x5)) ⟨1, by decide⟩ (run.sl.HS0_36 c i arg2 harg2 arg3 harg3 arg4 harg4 arg5 harg5 arg6 harg6 arg7 harg7 arg8 arg11 x0 x1 x2 x3 x4 x5) [⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a9, ← m9]; rfl
  constructor
  · rw [gScr', ← s, ← r, yOver, yLast, chunksRev, ← a10]; rfl
  · rw [gExpo, ← s, ← r, amax, yLast, chunksRev, ← a10, ← m10]; rfl

set_option maxHeartbeats 4000000 in
/-- Group 2: the scratch's pieces and the exponents are the stage's. -/
theorem group2 : run.sl.HS0_72 c i arg2 harg2 arg3 harg3 arg4 harg4 arg5 harg5 arg6 harg6 arg7 harg7 arg8 arg11 x0 x1 x2 x3 x4 x5 = gScr' i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨2, by decide⟩ (resL i (arg2.view.read (Elt F) (harg2.unread x0)) (arg3.view.read (Elt F) (harg3.unread x1)) (arg4.view.read (Elt F) (harg4.unread x2)) (arg5.view.read (Elt F) (harg5.unread x3)) [⟨1, by decide⟩, ⟨0, by decide⟩]) (run.sl.HS0_48 c i arg2 harg2 arg3 harg3 arg4 harg4 arg5 harg5 arg6 harg6 arg7 harg7 arg8 arg11 x0 x1 x2 x3 x4 x5)
    ∧ run.sl.v2401 c i arg2 harg2 arg3 harg3 arg4 harg4 arg5 harg5 arg6 harg6 arg7 harg7 arg8 arg11 x0 x1 x2 x3 x4 x5 = gExpo i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨2, by decide⟩ (resL i (arg2.view.read (Elt F) (harg2.unread x0)) (arg3.view.read (Elt F) (harg3.unread x1)) (arg4.view.read (Elt F) (harg4.unread x2)) (arg5.view.read (Elt F) (harg5.unread x3)) [⟨1, by decide⟩, ⟨0, by decide⟩]) (run.sl.HS0_48 c i arg2 harg2 arg3 harg3 arg4 harg4 arg5 harg5 arg6 harg6 arg7 harg7 arg8 arg11 x0 x1 x2 x3 x4 x5) := by
  have s : run.sl.HS0_60 c i arg2 harg2 arg3 harg3 arg4 harg4 arg5 harg5 arg6 harg6 arg7 harg7 arg8 arg11 x0 x1 x2 x3 x4 x5 = gScr i arg8 (arg2.view.read (Elt F) (harg2.unread x0)) (arg3.view.read (Elt F) (harg3.unread x1)) (arg4.view.read (Elt F) (harg4.unread x2)) (arg5.view.read (Elt F) (harg5.unread x3)) ⟨2, by decide⟩ (resL i (arg2.view.read (Elt F) (harg2.unread x0)) (arg3.view.read (Elt F) (harg3.unread x1)) (arg4.view.read (Elt F) (harg4.unread x2)) (arg5.view.read (Elt F) (harg5.unread x3)) [⟨1, by decide⟩, ⟨0, by decide⟩]) (run.sl.HS0_48 c i arg2 harg2 arg3 harg3 arg4 harg4 arg5 harg5 arg6 harg6 arg7 harg7 arg8 arg11 x0 x1 x2 x3 x4 x5) := rfl
  have r : (run.sl.r_17 c i arg2 harg2 arg3 harg3 arg4 harg4 arg5 harg5 arg8 x0 x1 x2 x3) = gRstd i arg8 (arg2.view.read (Elt F) (harg2.unread x0)) (arg3.view.read (Elt F) (harg3.unread x1)) (arg4.view.read (Elt F) (harg4.unread x2)) (arg5.view.read (Elt F) (harg5.unread x3)) ⟨2, by decide⟩ (resL i (arg2.view.read (Elt F) (harg2.unread x0)) (arg3.view.read (Elt F) (harg3.unread x1)) (arg4.view.read (Elt F) (harg4.unread x2)) (arg5.view.read (Elt F) (harg5.unread x3)) [⟨1, by decide⟩, ⟨0, by decide⟩]) := rfl
  have a0 : run.sl.HS0_61 c i arg2 harg2 arg3 harg3 arg4 harg4 arg5 harg5 arg6 harg6 arg7 harg7 arg8 arg11 x0 x1 x2 x3 x4 x5 = yList arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨0, by decide⟩] := rfl
  have m0 : run.sl.r_18 c i arg2 harg2 arg3 harg3 arg4 harg4 arg5 harg5 arg6 harg6 arg7 harg7 arg8 arg11 x0 x1 x2 x3 x4 x5 = yMax arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨0, by decide⟩] := rfl
  have a1 : run.sl.HS0_62 c i arg2 harg2 arg3 harg3 arg4 harg4 arg5 harg5 arg6 harg6 arg7 harg7 arg8 arg11 x0 x1 x2 x3 x4 x5 = yList arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨1, by decide⟩, ⟨0, by decide⟩] := by
    rw [yList_cons, ← a0]; rfl
  have m1 : run.sl.v2188 c i arg2 harg2 arg3 harg3 arg4 harg4 arg5 harg5 arg6 harg6 arg7 harg7 arg8 arg11 x0 x1 x2 x3 x4 x5 = yMax arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨1, by decide⟩, ⟨0, by decide⟩] := by
    rw [yMax_cons, ← a0, ← m0]; rfl
  have a2 : run.sl.HS0_63 c i arg2 harg2 arg3 harg3 arg4 harg4 arg5 harg5 arg6 harg6 arg7 harg7 arg8 arg11 x0 x1 x2 x3 x4 x5 = yList arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨2, by decide⟩, ⟨1, by decide⟩, ⟨0, by decide⟩] := by
    rw [yList_cons, ← a1]; rfl
  have m2 : run.sl.v2207 c i arg2 harg2 arg3 harg3 arg4 harg4 arg5 harg5 arg6 harg6 arg7 harg7 arg8 arg11 x0 x1 x2 x3 x4 x5 = yMax arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨2, by decide⟩, ⟨1, by decide⟩, ⟨0, by decide⟩] := by
    rw [yMax_cons, ← a1, ← m1]; rfl
  have a3 : run.sl.HS0_64 c i arg2 harg2 arg3 harg3 arg4 harg4 arg5 harg5 arg6 harg6 arg7 harg7 arg8 arg11 x0 x1 x2 x3 x4 x5 = yList arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨3, by decide⟩, ⟨2, by decide⟩, ⟨1, by decide⟩, ⟨0, by decide⟩] := by
    rw [yList_cons, ← a2]; rfl
  have m3 : run.sl.v2226 c i arg2 harg2 arg3 harg3 arg4 harg4 arg5 harg5 arg6 harg6 arg7 harg7 arg8 arg11 x0 x1 x2 x3 x4 x5 = yMax arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨3, by decide⟩, ⟨2, by decide⟩, ⟨1, by decide⟩, ⟨0, by decide⟩] := by
    rw [yMax_cons, ← a2, ← m2]; rfl
  have a4 : run.sl.HS0_65 c i arg2 harg2 arg3 harg3 arg4 harg4 arg5 harg5 arg6 harg6 arg7 harg7 arg8 arg11 x0 x1 x2 x3 x4 x5 = yList arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨4, by decide⟩, ⟨3, by decide⟩, ⟨2, by decide⟩, ⟨1, by decide⟩, ⟨0, by decide⟩] := by
    rw [yList_cons, ← a3]; rfl
  have m4 : run.sl.v2245 c i arg2 harg2 arg3 harg3 arg4 harg4 arg5 harg5 arg6 harg6 arg7 harg7 arg8 arg11 x0 x1 x2 x3 x4 x5 = yMax arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨4, by decide⟩, ⟨3, by decide⟩, ⟨2, by decide⟩, ⟨1, by decide⟩, ⟨0, by decide⟩] := by
    rw [yMax_cons, ← a3, ← m3]; rfl
  have a5 : run.sl.HS0_66 c i arg2 harg2 arg3 harg3 arg4 harg4 arg5 harg5 arg6 harg6 arg7 harg7 arg8 arg11 x0 x1 x2 x3 x4 x5 = yList arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨5, by decide⟩, ⟨4, by decide⟩, ⟨3, by decide⟩, ⟨2, by decide⟩, ⟨1, by decide⟩, ⟨0, by decide⟩] := by
    rw [yList_cons, ← a4]; rfl
  have m5 : run.sl.v2264 c i arg2 harg2 arg3 harg3 arg4 harg4 arg5 harg5 arg6 harg6 arg7 harg7 arg8 arg11 x0 x1 x2 x3 x4 x5 = yMax arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨5, by decide⟩, ⟨4, by decide⟩, ⟨3, by decide⟩, ⟨2, by decide⟩, ⟨1, by decide⟩, ⟨0, by decide⟩] := by
    rw [yMax_cons, ← a4, ← m4]; rfl
  have a6 : run.sl.HS0_67 c i arg2 harg2 arg3 harg3 arg4 harg4 arg5 harg5 arg6 harg6 arg7 harg7 arg8 arg11 x0 x1 x2 x3 x4 x5 = yList arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨6, by decide⟩, ⟨5, by decide⟩, ⟨4, by decide⟩, ⟨3, by decide⟩, ⟨2, by decide⟩, ⟨1, by decide⟩, ⟨0, by decide⟩] := by
    rw [yList_cons, ← a5]; rfl
  have m6 : run.sl.v2283 c i arg2 harg2 arg3 harg3 arg4 harg4 arg5 harg5 arg6 harg6 arg7 harg7 arg8 arg11 x0 x1 x2 x3 x4 x5 = yMax arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨6, by decide⟩, ⟨5, by decide⟩, ⟨4, by decide⟩, ⟨3, by decide⟩, ⟨2, by decide⟩, ⟨1, by decide⟩, ⟨0, by decide⟩] := by
    rw [yMax_cons, ← a5, ← m5]; rfl
  have a7 : run.sl.HS0_68 c i arg2 harg2 arg3 harg3 arg4 harg4 arg5 harg5 arg6 harg6 arg7 harg7 arg8 arg11 x0 x1 x2 x3 x4 x5 = yList arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨7, by decide⟩, ⟨6, by decide⟩, ⟨5, by decide⟩, ⟨4, by decide⟩, ⟨3, by decide⟩, ⟨2, by decide⟩, ⟨1, by decide⟩, ⟨0, by decide⟩] := by
    rw [yList_cons, ← a6]; rfl
  have m7 : run.sl.v2302 c i arg2 harg2 arg3 harg3 arg4 harg4 arg5 harg5 arg6 harg6 arg7 harg7 arg8 arg11 x0 x1 x2 x3 x4 x5 = yMax arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨7, by decide⟩, ⟨6, by decide⟩, ⟨5, by decide⟩, ⟨4, by decide⟩, ⟨3, by decide⟩, ⟨2, by decide⟩, ⟨1, by decide⟩, ⟨0, by decide⟩] := by
    rw [yMax_cons, ← a6, ← m6]; rfl
  have a8 : run.sl.HS0_69 c i arg2 harg2 arg3 harg3 arg4 harg4 arg5 harg5 arg6 harg6 arg7 harg7 arg8 arg11 x0 x1 x2 x3 x4 x5 = yList arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a7]; rfl
  have m8 : run.sl.v2321 c i arg2 harg2 arg3 harg3 arg4 harg4 arg5 harg5 arg6 harg6 arg7 harg7 arg8 arg11 x0 x1 x2 x3 x4 x5 = yMax arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a7, ← m7]; rfl
  have a9 : run.sl.HS0_70 c i arg2 harg2 arg3 harg3 arg4 harg4 arg5 harg5 arg6 harg6 arg7 harg7 arg8 arg11 x0 x1 x2 x3 x4 x5 = yList arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a8]; rfl
  have m9 : run.sl.v2340 c i arg2 harg2 arg3 harg3 arg4 harg4 arg5 harg5 arg6 harg6 arg7 harg7 arg8 arg11 x0 x1 x2 x3 x4 x5 = yMax arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a8, ← m8]; rfl
  have a10 : run.sl.HS0_71 c i arg2 harg2 arg3 harg3 arg4 harg4 arg5 harg5 arg6 harg6 arg7 harg7 arg8 arg11 x0 x1 x2 x3 x4 x5 = yList arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a9]; rfl
  have m10 : run.sl.v2359 c i arg2 harg2 arg3 harg3 arg4 harg4 arg5 harg5 arg6 harg6 arg7 harg7 arg8 arg11 x0 x1 x2 x3 x4 x5 = yMax arg11 (run.sl.r_17 c i arg2 harg2 arg3 harg3 arg4 harg4 arg5 harg5 arg8 x0 x1 x2 x3) (arg6.view.read (Elt F) (harg6.unread x4)) (arg7.view.read (Elt F) (harg7.unread x5)) ⟨2, by decide⟩ (run.sl.HS0_60 c i arg2 harg2 arg3 harg3 arg4 harg4 arg5 harg5 arg6 harg6 arg7 harg7 arg8 arg11 x0 x1 x2 x3 x4 x5) [⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a9, ← m9]; rfl
  constructor
  · rw [gScr', ← s, ← r, yOver, yLast, chunksRev, ← a10]; rfl
  · rw [gExpo, ← s, ← r, amax, yLast, chunksRev, ← a10, ← m10]; rfl

set_option maxHeartbeats 4000000 in
/-- Group 3: the scratch's pieces and the exponents are the stage's. -/
theorem group3 : run.sl.HS0_96 c i arg2 harg2 arg3 harg3 arg4 harg4 arg5 harg5 arg6 harg6 arg7 harg7 arg8 arg11 x0 x1 x2 x3 x4 x5 = gScr' i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨3, by decide⟩ (resL i (arg2.view.read (Elt F) (harg2.unread x0)) (arg3.view.read (Elt F) (harg3.unread x1)) (arg4.view.read (Elt F) (harg4.unread x2)) (arg5.view.read (Elt F) (harg5.unread x3)) [⟨2, by decide⟩, ⟨1, by decide⟩, ⟨0, by decide⟩]) (run.sl.HS0_72 c i arg2 harg2 arg3 harg3 arg4 harg4 arg5 harg5 arg6 harg6 arg7 harg7 arg8 arg11 x0 x1 x2 x3 x4 x5)
    ∧ run.sl.v3241 c i arg2 harg2 arg3 harg3 arg4 harg4 arg5 harg5 arg6 harg6 arg7 harg7 arg8 arg11 x0 x1 x2 x3 x4 x5 = gExpo i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨3, by decide⟩ (resL i (arg2.view.read (Elt F) (harg2.unread x0)) (arg3.view.read (Elt F) (harg3.unread x1)) (arg4.view.read (Elt F) (harg4.unread x2)) (arg5.view.read (Elt F) (harg5.unread x3)) [⟨2, by decide⟩, ⟨1, by decide⟩, ⟨0, by decide⟩]) (run.sl.HS0_72 c i arg2 harg2 arg3 harg3 arg4 harg4 arg5 harg5 arg6 harg6 arg7 harg7 arg8 arg11 x0 x1 x2 x3 x4 x5) := by
  have s : run.sl.HS0_84 c i arg2 harg2 arg3 harg3 arg4 harg4 arg5 harg5 arg6 harg6 arg7 harg7 arg8 arg11 x0 x1 x2 x3 x4 x5 = gScr i arg8 (arg2.view.read (Elt F) (harg2.unread x0)) (arg3.view.read (Elt F) (harg3.unread x1)) (arg4.view.read (Elt F) (harg4.unread x2)) (arg5.view.read (Elt F) (harg5.unread x3)) ⟨3, by decide⟩ (resL i (arg2.view.read (Elt F) (harg2.unread x0)) (arg3.view.read (Elt F) (harg3.unread x1)) (arg4.view.read (Elt F) (harg4.unread x2)) (arg5.view.read (Elt F) (harg5.unread x3)) [⟨2, by decide⟩, ⟨1, by decide⟩, ⟨0, by decide⟩]) (run.sl.HS0_72 c i arg2 harg2 arg3 harg3 arg4 harg4 arg5 harg5 arg6 harg6 arg7 harg7 arg8 arg11 x0 x1 x2 x3 x4 x5) := rfl
  have r : (run.sl.v2988 c i arg2 harg2 arg3 harg3 arg4 harg4 arg5 harg5 arg8 x0 x1 x2 x3) = gRstd i arg8 (arg2.view.read (Elt F) (harg2.unread x0)) (arg3.view.read (Elt F) (harg3.unread x1)) (arg4.view.read (Elt F) (harg4.unread x2)) (arg5.view.read (Elt F) (harg5.unread x3)) ⟨3, by decide⟩ (resL i (arg2.view.read (Elt F) (harg2.unread x0)) (arg3.view.read (Elt F) (harg3.unread x1)) (arg4.view.read (Elt F) (harg4.unread x2)) (arg5.view.read (Elt F) (harg5.unread x3)) [⟨2, by decide⟩, ⟨1, by decide⟩, ⟨0, by decide⟩]) := rfl
  have a0 : run.sl.HS0_85 c i arg2 harg2 arg3 harg3 arg4 harg4 arg5 harg5 arg6 harg6 arg7 harg7 arg8 arg11 x0 x1 x2 x3 x4 x5 = yList arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨0, by decide⟩] := rfl
  have m0 : run.sl.v3009 c i arg2 harg2 arg3 harg3 arg4 harg4 arg5 harg5 arg6 harg6 arg7 harg7 arg8 arg11 x0 x1 x2 x3 x4 x5 = yMax arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨0, by decide⟩] := rfl
  have a1 : run.sl.HS0_86 c i arg2 harg2 arg3 harg3 arg4 harg4 arg5 harg5 arg6 harg6 arg7 harg7 arg8 arg11 x0 x1 x2 x3 x4 x5 = yList arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨1, by decide⟩, ⟨0, by decide⟩] := by
    rw [yList_cons, ← a0]; rfl
  have m1 : run.sl.v3028 c i arg2 harg2 arg3 harg3 arg4 harg4 arg5 harg5 arg6 harg6 arg7 harg7 arg8 arg11 x0 x1 x2 x3 x4 x5 = yMax arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨1, by decide⟩, ⟨0, by decide⟩] := by
    rw [yMax_cons, ← a0, ← m0]; rfl
  have a2 : run.sl.HS0_87 c i arg2 harg2 arg3 harg3 arg4 harg4 arg5 harg5 arg6 harg6 arg7 harg7 arg8 arg11 x0 x1 x2 x3 x4 x5 = yList arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨2, by decide⟩, ⟨1, by decide⟩, ⟨0, by decide⟩] := by
    rw [yList_cons, ← a1]; rfl
  have m2 : run.sl.v3047 c i arg2 harg2 arg3 harg3 arg4 harg4 arg5 harg5 arg6 harg6 arg7 harg7 arg8 arg11 x0 x1 x2 x3 x4 x5 = yMax arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨2, by decide⟩, ⟨1, by decide⟩, ⟨0, by decide⟩] := by
    rw [yMax_cons, ← a1, ← m1]; rfl
  have a3 : run.sl.HS0_88 c i arg2 harg2 arg3 harg3 arg4 harg4 arg5 harg5 arg6 harg6 arg7 harg7 arg8 arg11 x0 x1 x2 x3 x4 x5 = yList arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨3, by decide⟩, ⟨2, by decide⟩, ⟨1, by decide⟩, ⟨0, by decide⟩] := by
    rw [yList_cons, ← a2]; rfl
  have m3 : run.sl.v3066 c i arg2 harg2 arg3 harg3 arg4 harg4 arg5 harg5 arg6 harg6 arg7 harg7 arg8 arg11 x0 x1 x2 x3 x4 x5 = yMax arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨3, by decide⟩, ⟨2, by decide⟩, ⟨1, by decide⟩, ⟨0, by decide⟩] := by
    rw [yMax_cons, ← a2, ← m2]; rfl
  have a4 : run.sl.HS0_89 c i arg2 harg2 arg3 harg3 arg4 harg4 arg5 harg5 arg6 harg6 arg7 harg7 arg8 arg11 x0 x1 x2 x3 x4 x5 = yList arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨4, by decide⟩, ⟨3, by decide⟩, ⟨2, by decide⟩, ⟨1, by decide⟩, ⟨0, by decide⟩] := by
    rw [yList_cons, ← a3]; rfl
  have m4 : run.sl.v3085 c i arg2 harg2 arg3 harg3 arg4 harg4 arg5 harg5 arg6 harg6 arg7 harg7 arg8 arg11 x0 x1 x2 x3 x4 x5 = yMax arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨4, by decide⟩, ⟨3, by decide⟩, ⟨2, by decide⟩, ⟨1, by decide⟩, ⟨0, by decide⟩] := by
    rw [yMax_cons, ← a3, ← m3]; rfl
  have a5 : run.sl.HS0_90 c i arg2 harg2 arg3 harg3 arg4 harg4 arg5 harg5 arg6 harg6 arg7 harg7 arg8 arg11 x0 x1 x2 x3 x4 x5 = yList arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨5, by decide⟩, ⟨4, by decide⟩, ⟨3, by decide⟩, ⟨2, by decide⟩, ⟨1, by decide⟩, ⟨0, by decide⟩] := by
    rw [yList_cons, ← a4]; rfl
  have m5 : run.sl.v3104 c i arg2 harg2 arg3 harg3 arg4 harg4 arg5 harg5 arg6 harg6 arg7 harg7 arg8 arg11 x0 x1 x2 x3 x4 x5 = yMax arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨5, by decide⟩, ⟨4, by decide⟩, ⟨3, by decide⟩, ⟨2, by decide⟩, ⟨1, by decide⟩, ⟨0, by decide⟩] := by
    rw [yMax_cons, ← a4, ← m4]; rfl
  have a6 : run.sl.HS0_91 c i arg2 harg2 arg3 harg3 arg4 harg4 arg5 harg5 arg6 harg6 arg7 harg7 arg8 arg11 x0 x1 x2 x3 x4 x5 = yList arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨6, by decide⟩, ⟨5, by decide⟩, ⟨4, by decide⟩, ⟨3, by decide⟩, ⟨2, by decide⟩, ⟨1, by decide⟩, ⟨0, by decide⟩] := by
    rw [yList_cons, ← a5]; rfl
  have m6 : run.sl.v3123 c i arg2 harg2 arg3 harg3 arg4 harg4 arg5 harg5 arg6 harg6 arg7 harg7 arg8 arg11 x0 x1 x2 x3 x4 x5 = yMax arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨6, by decide⟩, ⟨5, by decide⟩, ⟨4, by decide⟩, ⟨3, by decide⟩, ⟨2, by decide⟩, ⟨1, by decide⟩, ⟨0, by decide⟩] := by
    rw [yMax_cons, ← a5, ← m5]; rfl
  have a7 : run.sl.HS0_92 c i arg2 harg2 arg3 harg3 arg4 harg4 arg5 harg5 arg6 harg6 arg7 harg7 arg8 arg11 x0 x1 x2 x3 x4 x5 = yList arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨7, by decide⟩, ⟨6, by decide⟩, ⟨5, by decide⟩, ⟨4, by decide⟩, ⟨3, by decide⟩, ⟨2, by decide⟩, ⟨1, by decide⟩, ⟨0, by decide⟩] := by
    rw [yList_cons, ← a6]; rfl
  have m7 : run.sl.v3142 c i arg2 harg2 arg3 harg3 arg4 harg4 arg5 harg5 arg6 harg6 arg7 harg7 arg8 arg11 x0 x1 x2 x3 x4 x5 = yMax arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨7, by decide⟩, ⟨6, by decide⟩, ⟨5, by decide⟩, ⟨4, by decide⟩, ⟨3, by decide⟩, ⟨2, by decide⟩, ⟨1, by decide⟩, ⟨0, by decide⟩] := by
    rw [yMax_cons, ← a6, ← m6]; rfl
  have a8 : run.sl.HS0_93 c i arg2 harg2 arg3 harg3 arg4 harg4 arg5 harg5 arg6 harg6 arg7 harg7 arg8 arg11 x0 x1 x2 x3 x4 x5 = yList arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a7]; rfl
  have m8 : run.sl.v3161 c i arg2 harg2 arg3 harg3 arg4 harg4 arg5 harg5 arg6 harg6 arg7 harg7 arg8 arg11 x0 x1 x2 x3 x4 x5 = yMax arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a7, ← m7]; rfl
  have a9 : run.sl.HS0_94 c i arg2 harg2 arg3 harg3 arg4 harg4 arg5 harg5 arg6 harg6 arg7 harg7 arg8 arg11 x0 x1 x2 x3 x4 x5 = yList arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a8]; rfl
  have m9 : run.sl.v3180 c i arg2 harg2 arg3 harg3 arg4 harg4 arg5 harg5 arg6 harg6 arg7 harg7 arg8 arg11 x0 x1 x2 x3 x4 x5 = yMax arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a8, ← m8]; rfl
  have a10 : run.sl.HS0_95 c i arg2 harg2 arg3 harg3 arg4 harg4 arg5 harg5 arg6 harg6 arg7 harg7 arg8 arg11 x0 x1 x2 x3 x4 x5 = yList arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yList_cons, ← a9]; rfl
  have m10 : run.sl.v3199 c i arg2 harg2 arg3 harg3 arg4 harg4 arg5 harg5 arg6 harg6 arg7 harg7 arg8 arg11 x0 x1 x2 x3 x4 x5 = yMax arg11 (run.sl.v2988 c i arg2 harg2 arg3 harg3 arg4 harg4 arg5 harg5 arg8 x0 x1 x2 x3) (arg6.view.read (Elt F) (harg6.unread x4)) (arg7.view.read (Elt F) (harg7.unread x5)) ⟨3, by decide⟩ (run.sl.HS0_84 c i arg2 harg2 arg3 harg3 arg4 harg4 arg5 harg5 arg6 harg6 arg7 harg7 arg8 arg11 x0 x1 x2 x3 x4 x5) [⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩] := by
    rw [yMax_cons, ← a9, ← m9]; rfl
  constructor
  · rw [gScr', ← s, ← r, yOver, yLast, chunksRev, ← a10]; rfl
  · rw [gExpo, ← s, ← r, amax, yLast, chunksRev, ← a10, ← m10]; rfl

/-- The residual's block is left with the stages' pieces, -/
theorem res_eq : (run c i arg2 harg2 arg3 harg3 arg4 harg4 arg5 harg5 arg6 harg6 arg7 harg7 arg8 harg8 arg9 harg9 arg10 harg10 arg11 harg11 x0 x1 x2 x3 x4 x5).1.res = resL i (arg2.view.read (Elt F) (harg2.unread x0)) (arg3.view.read (Elt F) (harg3.unread x1)) (arg4.view.read (Elt F) (harg4.unread x2)) (arg5.view.read (Elt F) (harg5.unread x3)) groups := rfl

theorem scr0 : run.sl.HS0_24 c i arg2 harg2 arg3 harg3 arg4 harg4 arg5 harg5 arg6 harg6 arg7 harg7 arg8 arg11 x0 x1 x2 x3 x4 x5 = scrL i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) [⟨0, by decide⟩] := by
  rw [(group0 c i arg2 harg2 arg3 harg3 arg4 harg4 arg5 harg5 arg6 harg6 arg7 harg7 arg8 arg11 x0 x1 x2 x3 x4 x5).1]; rfl
theorem expo0 : run.sl.v721 c i arg2 harg2 arg3 harg3 arg4 harg4 arg5 harg5 arg6 harg6 arg7 harg7 arg8 arg11 x0 x1 x2 x3 x4 x5 = gExpo i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨0, by decide⟩ (resL i (arg2.view.read (Elt F) (harg2.unread x0)) (arg3.view.read (Elt F) (harg3.unread x1)) (arg4.view.read (Elt F) (harg4.unread x2)) (arg5.view.read (Elt F) (harg5.unread x3)) []) (scrL i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) []) := by
  rw [(group0 c i arg2 harg2 arg3 harg3 arg4 harg4 arg5 harg5 arg6 harg6 arg7 harg7 arg8 arg11 x0 x1 x2 x3 x4 x5).2]; rfl

theorem scr1 : run.sl.HS0_48 c i arg2 harg2 arg3 harg3 arg4 harg4 arg5 harg5 arg6 harg6 arg7 harg7 arg8 arg11 x0 x1 x2 x3 x4 x5 = scrL i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) [⟨1, by decide⟩, ⟨0, by decide⟩] := by
  rw [(group1 c i arg2 harg2 arg3 harg3 arg4 harg4 arg5 harg5 arg6 harg6 arg7 harg7 arg8 arg11 x0 x1 x2 x3 x4 x5).1, scr0]; rfl
theorem expo1 : run.sl.v1561 c i arg2 harg2 arg3 harg3 arg4 harg4 arg5 harg5 arg6 harg6 arg7 harg7 arg8 arg11 x0 x1 x2 x3 x4 x5 = gExpo i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨1, by decide⟩ (resL i (arg2.view.read (Elt F) (harg2.unread x0)) (arg3.view.read (Elt F) (harg3.unread x1)) (arg4.view.read (Elt F) (harg4.unread x2)) (arg5.view.read (Elt F) (harg5.unread x3)) [⟨0, by decide⟩]) (scrL i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) [⟨0, by decide⟩]) := by
  rw [(group1 c i arg2 harg2 arg3 harg3 arg4 harg4 arg5 harg5 arg6 harg6 arg7 harg7 arg8 arg11 x0 x1 x2 x3 x4 x5).2, scr0]

theorem scr2 : run.sl.HS0_72 c i arg2 harg2 arg3 harg3 arg4 harg4 arg5 harg5 arg6 harg6 arg7 harg7 arg8 arg11 x0 x1 x2 x3 x4 x5 = scrL i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) [⟨2, by decide⟩, ⟨1, by decide⟩, ⟨0, by decide⟩] := by
  rw [(group2 c i arg2 harg2 arg3 harg3 arg4 harg4 arg5 harg5 arg6 harg6 arg7 harg7 arg8 arg11 x0 x1 x2 x3 x4 x5).1, scr1]; rfl
theorem expo2 : run.sl.v2401 c i arg2 harg2 arg3 harg3 arg4 harg4 arg5 harg5 arg6 harg6 arg7 harg7 arg8 arg11 x0 x1 x2 x3 x4 x5 = gExpo i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨2, by decide⟩ (resL i (arg2.view.read (Elt F) (harg2.unread x0)) (arg3.view.read (Elt F) (harg3.unread x1)) (arg4.view.read (Elt F) (harg4.unread x2)) (arg5.view.read (Elt F) (harg5.unread x3)) [⟨1, by decide⟩, ⟨0, by decide⟩]) (scrL i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) [⟨1, by decide⟩, ⟨0, by decide⟩]) := by
  rw [(group2 c i arg2 harg2 arg3 harg3 arg4 harg4 arg5 harg5 arg6 harg6 arg7 harg7 arg8 arg11 x0 x1 x2 x3 x4 x5).2, scr1]

theorem scr3 : run.sl.HS0_96 c i arg2 harg2 arg3 harg3 arg4 harg4 arg5 harg5 arg6 harg6 arg7 harg7 arg8 arg11 x0 x1 x2 x3 x4 x5 = scrL i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) [⟨3, by decide⟩, ⟨2, by decide⟩, ⟨1, by decide⟩, ⟨0, by decide⟩] := by
  rw [(group3 c i arg2 harg2 arg3 harg3 arg4 harg4 arg5 harg5 arg6 harg6 arg7 harg7 arg8 arg11 x0 x1 x2 x3 x4 x5).1, scr2]; rfl
theorem expo3 : run.sl.v3241 c i arg2 harg2 arg3 harg3 arg4 harg4 arg5 harg5 arg6 harg6 arg7 harg7 arg8 arg11 x0 x1 x2 x3 x4 x5 = gExpo i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) ⟨3, by decide⟩ (resL i (arg2.view.read (Elt F) (harg2.unread x0)) (arg3.view.read (Elt F) (harg3.unread x1)) (arg4.view.read (Elt F) (harg4.unread x2)) (arg5.view.read (Elt F) (harg5.unread x3)) [⟨2, by decide⟩, ⟨1, by decide⟩, ⟨0, by decide⟩]) (scrL i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) [⟨2, by decide⟩, ⟨1, by decide⟩, ⟨0, by decide⟩]) := by
  rw [(group3 c i arg2 harg2 arg3 harg3 arg4 harg4 arg5 harg5 arg6 harg6 arg7 harg7 arg8 arg11 x0 x1 x2 x3 x4 x5).2, scr2]

theorem codesL_cons (y0 : Vec F S8x6x128 .f32) (y1 : Vec F S8x1x128x2880 .fp8e4m3) (y2 : Vec F S1x128x2880 .bf16) (y3 y4 y5 : Vec F S1x2880 .f32) (g : Fin 4) (gs : List (Fin 4)) :
    codesL i arg8 arg11 y0 y1 y2 y3 y4 y5 (g :: gs) = codesOver
      (fun k => qB (arg11.view.readCov (scrL i arg8 arg11 y0 y1 y2 y3 y4 y5 (g :: gs)) (rS g k).toLoadRect)
        (invScale (gExpo i arg8 arg11 y0 y1 y2 y3 y4 y5 g (resL i y0 y1 y2 y3 gs) (scrL i arg8 arg11 y0 y1 y2 y3 y4 y5 gs))))
      (qT (arg11.view.readCov (scrL i arg8 arg11 y0 y1 y2 y3 y4 y5 (g :: gs)) (rSt g).toLoadRect)
        (invScale (gExpo i arg8 arg11 y0 y1 y2 y3 y4 y5 g (resL i y0 y1 y2 y3 gs) (scrL i arg8 arg11 y0 y1 y2 y3 y4 y5 gs)))) g
      (codesL i arg8 arg11 y0 y1 y2 y3 y4 y5 gs) := rfl

theorem colsL_cons (y0 : Vec F S8x6x128 .f32) (y1 : Vec F S8x1x128x2880 .fp8e4m3) (y2 : Vec F S1x128x2880 .bf16) (y3 y4 y5 : Vec F S1x2880 .f32) (g : Fin 4) (gs : List (Fin 4)) :
    colsL i arg8 arg11 y0 y1 y2 y3 y4 y5 (g :: gs) = scaleCols
      (scale (gExpo i arg8 arg11 y0 y1 y2 y3 y4 y5 g (resL i y0 y1 y2 y3 gs) (scrL i arg8 arg11 y0 y1 y2 y3 y4 y5 gs))) g
      (colsL i arg8 arg11 y0 y1 y2 y3 y4 y5 gs) := rfl

set_option maxHeartbeats 4000000 in
/-- the codes' block with theirs, -/
theorem codes_eq : (run c i arg2 harg2 arg3 harg3 arg4 harg4 arg5 harg5 arg6 harg6 arg7 harg7 arg8 harg8 arg9 harg9 arg10 harg10 arg11 harg11 x0 x1 x2 x3 x4 x5).1.codes = codesL i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) groups := by
  rw [groups, codesL_cons, codesL_cons, codesL_cons, codesL_cons]
  simp only [← expo0 c i arg2 harg2 arg3 harg3 arg4 harg4 arg5 harg5 arg6 harg6 arg7 harg7 arg8 arg11 x0 x1 x2 x3 x4 x5, ← expo1 c i arg2 harg2 arg3 harg3 arg4 harg4 arg5 harg5 arg6 harg6 arg7 harg7 arg8 arg11 x0 x1 x2 x3 x4 x5, ← expo2 c i arg2 harg2 arg3 harg3 arg4 harg4 arg5 harg5 arg6 harg6 arg7 harg7 arg8 arg11 x0 x1 x2 x3 x4 x5, ← expo3 c i arg2 harg2 arg3 harg3 arg4 harg4 arg5 harg5 arg6 harg6 arg7 harg7 arg8 arg11 x0 x1 x2 x3 x4 x5]
  simp only [← scr0 c i arg2 harg2 arg3 harg3 arg4 harg4 arg5 harg5 arg6 harg6 arg7 harg7 arg8 arg11 x0 x1 x2 x3 x4 x5, ← scr1 c i arg2 harg2 arg3 harg3 arg4 harg4 arg5 harg5 arg6 harg6 arg7 harg7 arg8 arg11 x0 x1 x2 x3 x4 x5, ← scr2 c i arg2 harg2 arg3 harg3 arg4 harg4 arg5 harg5 arg6 harg6 arg7 harg7 arg8 arg11 x0 x1 x2 x3 x4 x5, ← scr3 c i arg2 harg2 arg3 harg3 arg4 harg4 arg5 harg5 arg6 harg6 arg7 harg7 arg8 arg11 x0 x1 x2 x3 x4 x5]
  rfl

set_option maxHeartbeats 4000000 in
/-- and the row of scales is theirs. -/
theorem scales_eq : (run c i arg2 harg2 arg3 harg3 arg4 harg4 arg5 harg5 arg6 harg6 arg7 harg7 arg8 harg8 arg9 harg9 arg10 harg10 arg11 harg11 x0 x1 x2 x3 x4 x5).1.scales = scalesRow (colsL i arg8 arg11 (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) groups) := by
  rw [groups, colsL_cons, colsL_cons, colsL_cons, colsL_cons]
  simp only [← expo0 c i arg2 harg2 arg3 harg3 arg4 harg4 arg5 harg5 arg6 harg6 arg7 harg7 arg8 arg11 x0 x1 x2 x3 x4 x5, ← expo1 c i arg2 harg2 arg3 harg3 arg4 harg4 arg5 harg5 arg6 harg6 arg7 harg7 arg8 arg11 x0 x1 x2 x3 x4 x5, ← expo2 c i arg2 harg2 arg3 harg3 arg4 harg4 arg5 harg5 arg6 harg6 arg7 harg7 arg8 arg11 x0 x1 x2 x3 x4 x5, ← expo3 c i arg2 harg2 arg3 harg3 arg4 harg4 arg5 harg5 arg6 harg6 arg7 harg7 arg8 arg11 x0 x1 x2 x3 x4 x5]
  rfl

end Cert.KernelIdeal.Body

end
-- ==== Proof.Lay.lean ====
/- The layout operations of the body read at an index: slices, shape casts, broadcasts and loads, for any group and chunk. -/
module

public import proofs.«01_k».proof.Proof.Ops
public import Idealize.ShloMosaic.Lib.ValueIdxCore
public import Idealize.ShloMosaic.Lib.Pipeline.Value
public import Idealize.ShloMosaic.Lib.Pipeline.ReadBack
public import Idealize.ShloMosaic.PureOps.Ideal.Laws

@[expose] public section

set_option maxRecDepth 16384

noncomputable section

namespace Cert.KernelIdeal.Body

open Idealize.ShloMosaic Idealize.ShloMosaic.TcCoe Idealize.ShloMosaic.ValueIdx
open Idealize.SL.Sem
open Cert.KernelIdeal.Gen

/-- Group `g`'s row `r` among the 128; chunk `c`'s column `q`, and the tail's, among the 2880. -/
abbrev row (g : Fin 4) (r : Fin 32) : Fin 128 := ⟨32 * g.val + r.val, by omega⟩
abbrev col (c : Fin 11) (q : Fin 256) : Fin 2880 := ⟨256 * c.val + q.val, by omega⟩
abbrev colT (q : Fin 64) : Fin 2880 := ⟨2816 + q.val, by omega⟩

variable {α : Type}

theorem slice_lo (x : S32x256.Idx → α) (r : Fin 32) (l : Fin 128) :
    extractStridedSlice S32x128 ![0, 0] x slices_S32x256_o0_0_S32x128 (ix2 r l) = x (ix2 r ⟨l.val, by omega⟩) :=
  extractStridedSlice_apply _ _ _ _ _ (by intro a; fin_cases a <;> simp)
theorem slice_hi (x : S32x256.Idx → α) (r : Fin 32) (l : Fin 128) :
    extractStridedSlice S32x128 ![0, 128] x slices_S32x256_o0_128_S32x128 (ix2 r l) = x (ix2 r ⟨128 + l.val, by omega⟩) :=
  extractStridedSlice_apply _ _ _ _ _ (by intro a; fin_cases a <;> simp)
theorem slice_G (g : Fin 4) (x : S1x128.Idx → α) (r : Fin 32) :
    extractStridedSlice S1x32 ![0, 32 * g.val] x (sliceG g) (ix2 0 r) = x (ix2 0 (row g r)) :=
  extractStridedSlice_apply _ _ _ _ _ (by intro a; fin_cases a <;> simp)

theorem bcast_col256 (x : S32x1.Idx → α) (r : Fin 32) (q : Fin 256) : broadcastTo S32x256 x broadcasts_S32x1_S32x256 (ix2 r q) = x (ix2 r 0) :=
  broadcastTo_apply _ _ _ _ (by intro a; fin_cases a <;> simp [S32x1])
theorem bcast_col64 (x : S32x1.Idx → α) (r : Fin 32) (q : Fin 64) : broadcastTo S32x64 x broadcasts_S32x1_S32x64 (ix2 r q) = x (ix2 r 0) :=
  broadcastTo_apply _ _ _ _ (by intro a; fin_cases a <;> simp [S32x1])
theorem bcast_col128 (x : S32x1.Idx → α) (r : Fin 32) (q : Fin 128) : broadcastTo S32x128 x broadcasts_S32x1_S32x128 (ix2 r q) = x (ix2 r 0) :=
  broadcastTo_apply _ _ _ _ (by intro a; fin_cases a <;> simp [S32x1])
theorem bcast_row256 (x : S1x256.Idx → α) (r : Fin 32) (q : Fin 256) : broadcastTo S32x256 x broadcasts_S1x256_S32x256 (ix2 r q) = x (ix2 0 q) :=
  broadcastTo_apply _ _ _ _ (by intro a; fin_cases a <;> simp [S1x256])
theorem bcast_row64 (x : S1x64.Idx → α) (r : Fin 32) (q : Fin 64) : broadcastTo S32x64 x broadcasts_S1x64_S32x64 (ix2 r q) = x (ix2 0 q) :=
  broadcastTo_apply _ _ _ _ (by intro a; fin_cases a <;> simp [S1x64])

theorem cast_self {s : Shape} (x : s.Idx → α) (h : s.ShapeCasts s) : shapeCast s x h = x :=
  funext fun j => shapeCast_apply _ _ _ _ rfl
theorem cast_32x1 (x : S32.Idx → α) (r : Fin 32) : shapeCast S32x1 x shapeCasts_S32_S32x1 (ix2 r 0) = x (ix1 r) :=
  shapeCast_apply _ _ _ _ (by rw [Shape.rowMajor_val_one, Shape.rowMajor_val_two]; show r.val = r.val * 1 + 0; omega)
theorem cast_1x128 (x : S1x1x128.Idx → α) (n : Fin 128) : shapeCast S1x128 x shapeCasts_S1x1x128_S1x128 (ix2 0 n) = x (ix3 0 0 n) :=
  shapeCast_apply _ _ _ _ (by rw [Shape.rowMajor_val_two, Shape.rowMajor_val_three]; show (0 * 1 + 0) * 128 + n.val = 0 * 128 + n.val; omega)
theorem cast_1x128' (x : S128.Idx → α) (n : Fin 128) : shapeCast S1x128 x shapeCasts_S128_S1x128 (ix2 0 n) = x (ix1 n) :=
  shapeCast_apply _ _ _ _ (by rw [Shape.rowMajor_val_one, Shape.rowMajor_val_two]; show n.val = 0 * 128 + n.val; omega)
theorem cast_drop256 (x : S1x32x256.Idx → α) (r : Fin 32) (q : Fin 256) : shapeCast S32x256 x shapeCasts_S1x32x256_S32x256 (ix2 r q) = x (ix3 0 r q) :=
  shapeCast_apply _ _ _ _ (by rw [Shape.rowMajor_val_two, Shape.rowMajor_val_three]; show (0 * 32 + r.val) * 256 + q.val = r.val * 256 + q.val; omega)
theorem cast_drop64 (x : S1x32x64.Idx → α) (r : Fin 32) (q : Fin 64) : shapeCast S32x64 x shapeCasts_S1x32x64_S32x64 (ix2 r q) = x (ix3 0 r q) :=
  shapeCast_apply _ _ _ _ (by rw [Shape.rowMajor_val_two, Shape.rowMajor_val_three]; show (0 * 32 + r.val) * 64 + q.val = r.val * 64 + q.val; omega)
theorem cast_add256 (x : S32x256.Idx → α) (z : Fin 1) (r : Fin 32) (q : Fin 256) : shapeCast S1x32x256 x shapeCasts_S32x256_S1x32x256 (ix3 z r q) = x (ix2 r q) :=
  shapeCast_apply _ _ _ _ (by
    rw [Shape.rowMajor_val_two, Shape.rowMajor_val_three]; show r.val * 256 + q.val = (z.val * 32 + r.val) * 256 + q.val; have := z.isLt; omega)
theorem cast_add64 (x : S32x64.Idx → α) (z : Fin 1) (r : Fin 32) (q : Fin 64) : shapeCast S1x32x64 x shapeCasts_S32x64_S1x32x64 (ix3 z r q) = x (ix2 r q) :=
  shapeCast_apply _ _ _ _ (by
    rw [Shape.rowMajor_val_two, Shape.rowMajor_val_three]; show r.val * 64 + q.val = (z.val * 32 + r.val) * 64 + q.val; have := z.isLt; omega)
theorem cast_parts256 (x : S8x1x32x256.Idx → α) (k q : Fin 256) :
    shapeCast S256x256 (shapeCast S8x32x256 x shapeCasts_S8x1x32x256_S8x32x256) shapeCasts_S8x32x256_S256x256 (ix2 k q)
      = x (ix4 ⟨k.val / 32, by omega⟩ 0 ⟨k.val % 32, by omega⟩ q) := by
  rw [shapeCast_apply _ _ (ix2 k q) (ix3 ⟨k.val / 32, by omega⟩ ⟨k.val % 32, by omega⟩ q : S8x32x256.Idx)
    (by rw [Shape.rowMajor_val_two, Shape.rowMajor_val_three]; show (k.val / 32 * 32 + k.val % 32) * 256 + q.val = k.val * 256 + q.val; omega)]
  exact shapeCast_apply _ _ _ _
    (by rw [Shape.rowMajor_val_three, Shape.rowMajor_val_four]; show ((k.val / 32 * 1 + 0) * 32 + k.val % 32) * 256 + q.val = (k.val / 32 * 32 + k.val % 32) * 256 + q.val; omega)
theorem cast_parts64 (x : S8x1x32x64.Idx → α) (k : Fin 256) (q : Fin 64) :
    shapeCast S256x64 (shapeCast S8x32x64 x shapeCasts_S8x1x32x64_S8x32x64) shapeCasts_S8x32x64_S256x64 (ix2 k q)
      = x (ix4 ⟨k.val / 32, by omega⟩ 0 ⟨k.val % 32, by omega⟩ q) := by
  rw [shapeCast_apply _ _ (ix2 k q) (ix3 ⟨k.val / 32, by omega⟩ ⟨k.val % 32, by omega⟩ q : S8x32x64.Idx)
    (by rw [Shape.rowMajor_val_two, Shape.rowMajor_val_three]; show (k.val / 32 * 32 + k.val % 32) * 64 + q.val = k.val * 64 + q.val; omega)]
  exact shapeCast_apply _ _ _ _
    (by rw [Shape.rowMajor_val_three, Shape.rowMajor_val_four]; show ((k.val / 32 * 1 + 0) * 32 + k.val % 32) * 64 + q.val = (k.val / 32 * 32 + k.val % 32) * 64 + q.val; omega)

/-! ## The rectangles' indices -/

theorem idx_P (g : Fin 4) (c : Fin 11) (p : Fin 8) (r : Fin 32) (q : Fin 256) : (rP g c).idx (ix4 p 0 r q) = (ix4 p 0 (row g r) (col c q) : S8x1x128x2880.Idx) := by
  funext a; apply Fin.ext
  match a with | ⟨0, _⟩ => show 0 + 1 * p.val = p.val; omega | ⟨1, _⟩ => rfl | ⟨2, _⟩ => show 32 * g.val + 1 * r.val = _; simp | ⟨3, _⟩ => show 256 * c.val + 1 * q.val = _; simp
theorem idx_Pt (g : Fin 4) (p : Fin 8) (r : Fin 32) (q : Fin 64) : (rPt g).idx (ix4 p 0 r q) = (ix4 p 0 (row g r) (colT q) : S8x1x128x2880.Idx) := by
  funext a; apply Fin.ext
  match a with | ⟨0, _⟩ => show 0 + 1 * p.val = p.val; omega | ⟨1, _⟩ => rfl | ⟨2, _⟩ => show 32 * g.val + 1 * r.val = _; simp | ⟨3, _⟩ => show 2816 + 1 * q.val = _; simp
theorem idx_B (g : Fin 4) (c : Fin 11) (z : Fin 1) (r : Fin 32) (q : Fin 256) : (rB g c).idx (ix3 z r q) = (ix3 0 (row g r) (col c q) : S1x128x2880.Idx) := by
  funext a; apply Fin.ext
  match a with | ⟨0, _⟩ => show 0 + 1 * z.val = 0; omega | ⟨1, _⟩ => show 32 * g.val + 1 * r.val = _; simp | ⟨2, _⟩ => show 256 * c.val + 1 * q.val = _; simp
theorem idx_Bt (g : Fin 4) (z : Fin 1) (r : Fin 32) (q : Fin 64) : (rBt g).idx (ix3 z r q) = (ix3 0 (row g r) (colT q) : S1x128x2880.Idx) := by
  funext a; apply Fin.ext
  match a with | ⟨0, _⟩ => show 0 + 1 * z.val = 0; omega | ⟨1, _⟩ => show 32 * g.val + 1 * r.val = _; simp | ⟨2, _⟩ => show 2816 + 1 * q.val = _; simp
theorem idx_S (g : Fin 4) (c : Fin 11) (r : Fin 32) (q : Fin 256) : (rS g c).idx (ix2 r q) = (ix2 (row g r) (col c q) : S128x2880.Idx) := by
  funext a; apply Fin.ext
  match a with | ⟨0, _⟩ => show 32 * g.val + 1 * r.val = _; simp | ⟨1, _⟩ => show 256 * c.val + 1 * q.val = _; simp
theorem idx_St (g : Fin 4) (r : Fin 32) (q : Fin 64) : (rSt g).idx (ix2 r q) = (ix2 (row g r) (colT q) : S128x2880.Idx) := by
  funext a; apply Fin.ext
  match a with | ⟨0, _⟩ => show 32 * g.val + 1 * r.val = _; simp | ⟨1, _⟩ => show 2816 + 1 * q.val = _; simp
theorem idx_R (c : Fin 11) (q : Fin 256) : (rR c).idx (ix2 0 q) = (ix2 0 (col c q) : S1x2880.Idx) := by
  funext a; apply Fin.ext
  match a with | ⟨0, _⟩ => rfl | ⟨1, _⟩ => show 256 * c.val + 1 * q.val = _; simp
theorem idx_Rt (q : Fin 64) : rRt.idx (ix2 0 q) = (ix2 0 (colT q) : S1x2880.Idx) := by
  funext a; apply Fin.ext
  match a with | ⟨0, _⟩ => rfl | ⟨1, _⟩ => show 2816 + 1 * q.val = _; simp

end Cert.KernelIdeal.Body

end
-- ==== Proof.Stage.lean ====
/- What one block computes, at the extended reals: the new residual of a row, as the sum over the eight partials. -/
module

public import proofs.«01_k».proof.Proof.Lay

@[expose] public section

set_option maxRecDepth 16384

noncomputable section

namespace Cert.KernelIdeal.Body

open Idealize.ShloMosaic Idealize.ShloMosaic.TcCoe Idealize.ShloMosaic.ValueIdx
open Idealize.SL.Sem
open Cert.KernelIdeal.Gen

/-- A sum over 256 columns of a row that is zero off the columns `32 p + r` is the sum over the eight `p`. -/
theorem sum_diag (s : Fin 8 → EReal) (P : Fin 8 → Fin 32 → EReal) (r : Fin 32) :
    (∑ k : Fin 256, (if k.val % 32 = r.val then s ⟨k.val / 32, by omega⟩ else 0) * P ⟨k.val / 32, by omega⟩ ⟨k.val % 32, by omega⟩)
      = ∑ p : Fin 8, s p * P p r := by
  rw [← Equiv.sum_comp (finProdFinEquiv (m := 8) (n := 32)), Fintype.sum_prod_type]
  refine Finset.sum_congr rfl fun p _ => ?_
  rw [Finset.sum_eq_single r]
  · have h1 : (finProdFinEquiv (m := 8) (n := 32) (p, r)).val % 32 = r.val := by show (r.val + 32 * p.val) % 32 = r.val; omega
    have h2 : (finProdFinEquiv (m := 8) (n := 32) (p, r)).val / 32 = p.val := by show (r.val + 32 * p.val) / 32 = p.val; omega
    rw [if_pos h1]
    congr 2 <;> first | exact Fin.ext h2 | exact Fin.ext h1
  · intro b _ hb
    rw [if_neg, zero_mul]
    intro h
    apply hb; apply Fin.ext
    have h1 : (finProdFinEquiv (m := 8) (n := 32) (p, b)).val % 32 = b.val := by show (b.val + 32 * p.val) % 32 = b.val; omega
    omega
  · intro h; exact absurd (Finset.mem_univ _) h

theorem mask_eq : ∀ (r : Fin 32) (k : Fin 256),
    IntOp.cmpi .eq (IntOp.andi (BitVec.ofNat 32 k.val) 31#32) (BitVec.ofNat 32 r.val) = if k.val % 32 = r.val then 1#1 else 0#1 := by
  decide +kernel

theorem iota_col (r : Fin 32) (k : Fin 256) : iota .tc S32x256 32 [1] iota_S32x256_d1_w32 (ix2 r k) = BitVec.ofNat 32 k.val := by
  show BitVec.ofNat 32 (0 * 256 + k.val) = _
  rw [Nat.zero_mul, Nat.zero_add]
theorem iota_row (r : Fin 32) (k : Fin 256) : iota .tc S32x256 32 [0] iota_S32x256_d0_w32 (ix2 r k) = BitVec.ofNat 32 r.val := by
  show BitVec.ofNat 32 (0 * 32 + r.val) = _
  rw [Nat.zero_mul, Nat.zero_add]

variable (i : grid0.Coords) (x0 : Vec Ideal S8x6x128 .f32) (x1 : Vec Ideal S8x1x128x2880 .fp8e4m3) (x2 : Vec Ideal S1x128x2880 .bf16) (x3 : Vec Ideal S1x2880 .f32)

theorem off_b (i : grid0.Coords) : (Scalar.indexCast (BitVec.ofNat 32 (i 1).val) : Index).toNat = (i 1).val := by
  have h : (i 1).val < 6 := (i 1).isLt
  show (BitVec.ofNat 32 (i 1).val).toNat = _
  rw [BitVec.toNat_ofNat]; omega

/-- The batch row of a grid point. -/
abbrev brow (i : grid0.Coords) : Fin 6 := i 1

theorem scale1 (off : Fin 3 → Nat) (inb : ∀ a, off a + S1x1x128.size a ≤ S8x6x128.size a) (p : Fin 8) (h0 : off 0 = p.val) (h1 : off 1 = (i 1).val) (h2 : off 2 = 0)
    (g : Fin 4) (r : Fin 32) :
    extractStridedSlice S1x32 ![0, 32 * g.val] (shapeCast S1x128 (View.ld x0 (Rect.unit (s := S8x6x128) off S1x1x128.size inb)) shapeCasts_S1x1x128_S1x128) (sliceG g) (ix2 0 r)
      = x0 (ix3 p (brow i) (row g r)) := by
  rw [slice_G, cast_1x128]
  show x0 _ = x0 _
  congr 1
  funext a; apply Fin.ext
  match a with
  | ⟨0, _⟩ => show off 0 + 1 * 0 = _; rw [h0]; rfl
  | ⟨1, _⟩ => show off 1 + 1 * 0 = _; rw [h1]; rfl
  | ⟨2, _⟩ => show off 2 + 1 * (row g r).val = _; rw [h2]; simp

/-- The left operand holds, on its diagonals, the partials' scales of the group's tokens. -/
theorem lhs_apply (g : Fin 4) (r : Fin 32) (k : Fin 256) :
    lhs i x0 g (ix2 r k) = if k.val % 32 = r.val then x0 (ix3 ⟨k.val / 32, by omega⟩ (brow i) (row g r)) else 0 := by
  show Scalar.select (IntOp.cmpi .eq (IntOp.andi (iota .tc S32x256 32 [1] iota_S32x256_d1_w32 (ix2 r k)) 31#32) (iota .tc S32x256 32 [0] iota_S32x256_d0_w32 (ix2 r k)))
    _ (Ideal.ofBits .f32 0x00000000#32) = _
  rw [iota_col, iota_row, mask_eq]
  by_cases hk : k.val % 32 = r.val
  · rw [if_pos hk, if_pos hk, select_one, bcast_row256, cast_self]
    have hp : k.val / 32 < 8 := by omega
    obtain ⟨p, hpv⟩ : ∃ p : Fin 8, p.val = k.val / 32 := ⟨⟨k.val / 32, hp⟩, rfl⟩
    have hpe : (⟨k.val / 32, by omega⟩ : Fin 8) = p := Fin.ext hpv.symm
    rw [hpe]
    have hkv : k.val = 32 * p.val + r.val := by omega
    match p, hkv with
    | ⟨0, _⟩, hkv =>
      refine (concatenate_apply_piece 1 _ _ (ix2 0 k) 0 (by simp) S1x32 _ rfl rfl 0 rfl (ix2 0 r) (fun b => by fin_cases b <;> simp) (by show 0 + r.val = k.val; have h : k.val = 32 * 0 + r.val := hkv; omega)).trans ?_
      exact scale1 i x0 _ _ ⟨0, by decide⟩ rfl (off_b i) rfl g r
    | ⟨1, _⟩, hkv =>
      refine (concatenate_apply_piece 1 _ _ (ix2 0 k) 1 (by simp) S1x32 _ rfl rfl 32 rfl (ix2 0 r) (fun b => by fin_cases b <;> simp) (by show 32 + r.val = k.val; have h : k.val = 32 * 1 + r.val := hkv; omega)).trans ?_
      exact scale1 i x0 _ _ ⟨1, by decide⟩ rfl (off_b i) rfl g r
    | ⟨2, _⟩, hkv =>
      refine (concatenate_apply_piece 1 _ _ (ix2 0 k) 2 (by simp) S1x32 _ rfl rfl 64 rfl (ix2 0 r) (fun b => by fin_cases b <;> simp) (by show 64 + r.val = k.val; have h : k.val = 32 * 2 + r.val := hkv; omega)).trans ?_
      exact scale1 i x0 _ _ ⟨2, by decide⟩ rfl (off_b i) rfl g r
    | ⟨3, _⟩, hkv =>
      refine (concatenate_apply_piece 1 _ _ (ix2 0 k) 3 (by simp) S1x32 _ rfl rfl 96 rfl (ix2 0 r) (fun b => by fin_cases b <;> simp) (by show 96 + r.val = k.val; have h : k.val = 32 * 3 + r.val := hkv; omega)).trans ?_
      exact scale1 i x0 _ _ ⟨3, by decide⟩ rfl (off_b i) rfl g r
    | ⟨4, _⟩, hkv =>
      refine (concatenate_apply_piece 1 _ _ (ix2 0 k) 4 (by simp) S1x32 _ rfl rfl 128 rfl (ix2 0 r) (fun b => by fin_cases b <;> simp) (by show 128 + r.val = k.val; have h : k.val = 32 * 4 + r.val := hkv; omega)).trans ?_
      exact scale1 i x0 _ _ ⟨4, by decide⟩ rfl (off_b i) rfl g r
    | ⟨5, _⟩, hkv =>
      refine (concatenate_apply_piece 1 _ _ (ix2 0 k) 5 (by simp) S1x32 _ rfl rfl 160 rfl (ix2 0 r) (fun b => by fin_cases b <;> simp) (by show 160 + r.val = k.val; have h : k.val = 32 * 5 + r.val := hkv; omega)).trans ?_
      exact scale1 i x0 _ _ ⟨5, by decide⟩ rfl (off_b i) rfl g r
    | ⟨6, _⟩, hkv =>
      refine (concatenate_apply_piece 1 _ _ (ix2 0 k) 6 (by simp) S1x32 _ rfl rfl 192 rfl (ix2 0 r) (fun b => by fin_cases b <;> simp) (by show 192 + r.val = k.val; have h : k.val = 32 * 6 + r.val := hkv; omega)).trans ?_
      exact scale1 i x0 _ _ ⟨6, by decide⟩ rfl (off_b i) rfl g r
    | ⟨7, _⟩, hkv =>
      refine (concatenate_apply_piece 1 _ _ (ix2 0 k) 7 (by simp) S1x32 _ rfl rfl 224 rfl (ix2 0 r) (fun b => by fin_cases b <;> simp) (by show 224 + r.val = k.val; have h : k.val = 32 * 7 + r.val := hkv; omega)).trans ?_
      exact scale1 i x0 _ _ ⟨7, by decide⟩ rfl (off_b i) rfl g r
  · rw [if_neg hk, if_neg hk, select_zero]
    exact Ideal.ofBits_zero_f32

/-- The new residual of row `n` of the block at column `j`: the partials summed under their scales, the bias, the old residual. -/
def Hv (n : Fin 128) (j : Fin 2880) : EReal :=
  ((∑ p : Fin 8, x0 (ix3 p (brow i) n) * x1 (ix4 p 0 n j)) + x3 (ix2 0 j)) + x2 (ix3 0 n j)

theorem par_apply (x : Vec Ideal S1x2880 .f32) (c : Fin 11) (r : Fin 32) (q : Fin 256) : par x c (ix2 r q) = x (ix2 0 (col c q)) := by
  unfold par
  rw [bcast_row256]
  exact (congrFun (cast_self (s := S1x256) _ _) _).trans (congrArg x (idx_R c q))
theorem parT_apply (x : Vec Ideal S1x2880 .f32) (r : Fin 32) (q : Fin 64) : parT x (ix2 r q) = x (ix2 0 (colT q)) := by
  unfold parT
  rw [bcast_row64]
  exact (congrFun (cast_self (s := S1x64) _ _) _).trans (congrArg x (idx_Rt q))

theorem hB_apply (g : Fin 4) (c : Fin 11) (r : Fin 32) (q : Fin 256) :
    hB i x0 x1 x2 x3 g c (ix2 r q) = Hv i x0 x1 x2 x3 (row g r) (col c q) := by
  show ((_ : EReal) + par x3 c (ix2 r q)) + shapeCast S32x256 (View.ld x2 (rB g c)) shapeCasts_S1x32x256_S32x256 (ix2 r q) = _
  unfold Hv
  rw [par_apply, cast_drop256]
  congr 1
  · congr 1
    refine (Ideal.matmul_constant_zero_apply _ none _ _ _).trans ?_
    rw [← sum_diag (fun p => x0 (ix3 p (brow i) (row g r))) (fun p s => x1 (ix4 p 0 (row g s) (col c q))) r]
    rw [← Equiv.sum_comp (contrEquiv1 dot_S32x256_S256x256_S32x256_1_0_0_1_n_n 256 rfl rfl).symm]
    refine Finset.sum_congr rfl fun k _ => ?_
    have e1 : dot_S32x256_S256x256_S32x256_1_0_0_1_n_n.lhsIdx (ix2 r q) ((contrEquiv1 dot_S32x256_S256x256_S32x256_1_0_0_1_n_n 256 rfl rfl).symm k) = ix2 r k := by
      funext a; match a with | ⟨0, _⟩ => rfl | ⟨1, _⟩ => rfl
    have e2 : dot_S32x256_S256x256_S32x256_1_0_0_1_n_n.rhsIdx (ix2 r q) ((contrEquiv1 dot_S32x256_S256x256_S32x256_1_0_0_1_n_n 256 rfl rfl).symm k) = ix2 k q := by
      funext a; match a with | ⟨0, _⟩ => rfl | ⟨1, _⟩ => rfl
    rw [e1, e2, lhs_apply, cast_parts256]
    congr 1
    exact congrArg x1 (idx_P g c _ _ q)
  · exact congrArg x2 (idx_B g c 0 r q)

theorem hT_apply (g : Fin 4) (r : Fin 32) (q : Fin 64) :
    hT i x0 x1 x2 x3 g (ix2 r q) = Hv i x0 x1 x2 x3 (row g r) (colT q) := by
  show ((_ : EReal) + parT x3 (ix2 r q)) + shapeCast S32x64 (View.ld x2 (rBt g)) shapeCasts_S1x32x64_S32x64 (ix2 r q) = _
  unfold Hv
  rw [parT_apply, cast_drop64]
  congr 1
  · congr 1
    refine (Ideal.matmul_constant_zero_apply _ none _ _ _).trans ?_
    rw [← sum_diag (fun p => x0 (ix3 p (brow i) (row g r))) (fun p s => x1 (ix4 p 0 (row g s) (colT q))) r]
    rw [← Equiv.sum_comp (contrEquiv1 dot_S32x256_S256x64_S32x64_1_0_0_1_n_n 256 rfl rfl).symm]
    refine Finset.sum_congr rfl fun k _ => ?_
    have e1 : dot_S32x256_S256x64_S32x64_1_0_0_1_n_n.lhsIdx (ix2 r q) ((contrEquiv1 dot_S32x256_S256x64_S32x64_1_0_0_1_n_n 256 rfl rfl).symm k) = ix2 r k := by
      funext a; match a with | ⟨0, _⟩ => rfl | ⟨1, _⟩ => rfl
    have e2 : dot_S32x256_S256x64_S32x64_1_0_0_1_n_n.rhsIdx (ix2 r q) ((contrEquiv1 dot_S32x256_S256x64_S32x64_1_0_0_1_n_n 256 rfl rfl).symm k) = ix2 k q := by
      funext a; match a with | ⟨0, _⟩ => rfl | ⟨1, _⟩ => rfl
    rw [e1, e2, lhs_apply, cast_parts64]
    congr 1
    exact congrArg x1 (idx_Pt g _ _ q)
  · exact congrArg x2 (idx_Bt g 0 r q)

end Cert.KernelIdeal.Body

end
-- ==== Proof.Sums.lean ====
/- Sums and maxima of a row of 2880 taken as the body takes them: by 11 chunks of two halves of 128 lanes, and a tail of 64. -/
module

public import proofs.«01_k».proof.Proof.Lay

@[expose] public section

set_option maxRecDepth 16384

noncomputable section

namespace Cert.KernelIdeal.Body

open Idealize.ShloMosaic Idealize.ShloMosaic.TcCoe Idealize.ShloMosaic.ValueIdx
open Idealize.SL.Sem
open Cert.KernelIdeal.Gen

/-- The row's sum is the lanes' sums over the chunks' halves, and the tail's. -/
theorem sum_cols (f : Fin 2880 → EReal) :
    (∑ l : Fin 128, chunks.foldl (fun a c => (a + f (col c ⟨l.val, by omega⟩)) + f (col c ⟨128 + l.val, by omega⟩)) 0) + ∑ q : Fin 64, f (colT q)
      = ∑ j, f j := by
  have hF : ∃ F : ℕ → EReal, ∀ j : Fin 2880, f j = F j.val :=
    ⟨fun k => if h : k < 2880 then f ⟨k, h⟩ else 0, fun j => by simp⟩
  obtain ⟨F, hF⟩ := hF
  simp only [hF]
  rw [Fin.sum_univ_eq_sum_range (fun k => F k) 2880, Fin.sum_univ_eq_sum_range (fun k => F (2816 + k)) 64]
  have key : ∀ n : ℕ, ∑ l : Fin 128, F (n + l.val) = ∑ k ∈ Finset.range 128, F (n + k) := fun n => Fin.sum_univ_eq_sum_range (fun k => F (n + k)) 128
  have step : ∀ n : ℕ, ∑ k ∈ Finset.range (n + 128), F k = ∑ k ∈ Finset.range n, F k + ∑ l : Fin 128, F (n + l.val) := fun n => by
    rw [Finset.sum_range_add, key]
  have s0 : ∑ k ∈ Finset.range 2880, F k = ∑ k ∈ Finset.range 2816, F k + ∑ k ∈ Finset.range 64, F (2816 + k) := Finset.sum_range_add F 2816 64
  rw [s0]
  congr 1
  have half : ∀ (c : ℕ), ∑ k ∈ Finset.range (256 * (c + 1)), F k
      = ∑ k ∈ Finset.range (256 * c), F k + ∑ l : Fin 128, F (256 * c + l.val) + ∑ l : Fin 128, F (256 * c + (128 + l.val)) := fun c => by
    rw [show 256 * (c + 1) = (256 * c + 128) + 128 by ring, step, step]
    simp only [Nat.add_assoc]
  simp only [chunks, List.foldl, Finset.sum_add_distrib, Finset.sum_const_zero]
  rw [show (2816 : ℕ) = 256 * (10 + 1) from rfl, half 10, half 9, half 8, half 7, half 6, half 5, half 4, half 3, half 2, half 1, half 0]
  simp

theorem addHalves_apply (acc : FVec Ideal S32x128 .f32) (v : FVec Ideal S32x256 .f32) (r : Fin 32) (l : Fin 128) :
    addHalves acc v (ix2 r l) = ((acc (ix2 r l) + v (ix2 r ⟨l.val, by omega⟩)) + v (ix2 r ⟨128 + l.val, by omega⟩) : EReal) := by
  show ((acc (ix2 r l) + _) + _ : EReal) = _
  rw [slice_lo, slice_hi]

theorem foldl_addHalves (v : Fin 11 → FVec Ideal S32x256 .f32) (r : Fin 32) (l : Fin 128) : ∀ (cs : List (Fin 11)) (acc : FVec Ideal S32x128 .f32),
    cs.foldl (fun acc c => addHalves acc (v c)) acc (ix2 r l)
      = cs.foldl (fun (a : EReal) c => (a + v c (ix2 r ⟨l.val, by omega⟩)) + v c (ix2 r ⟨128 + l.val, by omega⟩)) (acc (ix2 r l))
  | [], _ => rfl
  | c :: cs, acc => by rw [List.foldl_cons, foldl_addHalves v r l cs, addHalves_apply, List.foldl_cons]

theorem lift_128 (r : Fin 32) (l : Fin 128) : reduces_S32x128_S32.lift (ix1 r) l = ix2 r l := by
  funext a; match a with | ⟨0, _⟩ => rfl | ⟨1, _⟩ => rfl
theorem lift_64 (r : Fin 32) (l : Fin 64) : reduces_S32x64_S32.lift (ix1 r) l = ix2 r l := by
  funext a; match a with | ⟨0, _⟩ => rfl | ⟨1, _⟩ => rfl

theorem rowSum_apply (acc : FVec Ideal S32x128 .f32) (t : FVec Ideal S32x64 .f32) (r : Fin 32) :
    rowSum acc t (ix2 r 0) = (∑ l : Fin 128, acc (ix2 r l)) + ∑ q : Fin 64, (t (ix2 r q) : EReal) := by
  show (shapeCast S32x1 _ shapeCasts_S32_S32x1 (ix2 r 0) + (Ideal.ofBits .f32 0x00000000#32 + shapeCast S32x1 _ shapeCasts_S32_S32x1 (ix2 r 0)) : EReal) = _
  rw [cast_32x1, cast_32x1, Ideal.ofBits_zero_f32, zero_add]
  congr 1
  · refine (Ideal.multiReduction_add_single _ _ _ _ _ _).trans ?_
    exact Finset.sum_congr rfl fun l _ => congrArg acc (lift_128 r l)
  · refine (Ideal.multiReduction_add_single _ _ _ _ _ _).trans ?_
    exact Finset.sum_congr rfl fun l _ => congrArg t (lift_64 r l)

/-- The body's sum of a row held by chunks. -/
theorem rowSum_eq (v : Fin 11 → FVec Ideal S32x256 .f32) (t : FVec Ideal S32x64 .f32) (r : Fin 32) (f : Fin 2880 → EReal)
    (hv : ∀ c q, v c (ix2 r q) = f (col c q)) (ht : ∀ q, t (ix2 r q) = f (colT q)) :
    rowSum (chunks.foldl (fun acc c => addHalves acc (v c)) zero128) t (ix2 r 0) = ∑ j, f j := by
  rw [rowSum_apply, ← sum_cols f]
  congr 1
  · refine Finset.sum_congr rfl fun l _ => ?_
    rw [foldl_addHalves]
    simp only [hv]
    rw [show (zero128 : FVec Ideal S32x128 .f32) (ix2 r l) = (0 : EReal) from Ideal.ofBits_zero_f32]
  · exact Finset.sum_congr rfl fun q _ => ht q

/-- The reciprocal of the width, as the kernel's constant denotes it. -/
abbrev kW : EReal := ((1 / 2880 : ℝ) : EReal)

theorem invW_eq : (invW : Ideal .f32) = kW := rfl

/-- The row's mean. -/
theorem mean_apply (h : Fin 11 → FVec Ideal S32x256 .bf16) (t : FVec Ideal S32x64 .bf16) (r : Fin 32) (f : Fin 2880 → EReal)
    (hv : ∀ c q, h c (ix2 r q) = f (col c q)) (ht : ∀ q, t (ix2 r q) = f (colT q)) :
    mean h t (ix2 r 0) = (∑ j, f j) * kW := by
  show ((rowSum (F := Ideal) _ _ (ix2 r 0) : EReal) * _ : EReal) = _
  rw [rowSum_eq (fun c => extf .f32 (h c) bitsLt_bf16_f32) (extf .f32 t bitsLt_bf16_f32) r f hv ht]
  rfl

/-- The small constant added to the variance. -/
abbrev kEps : EReal := Ideal.ofBits .f32 0x358637BD#32

/-- The row's reciprocal standard deviation. -/
theorem rstd_apply (d : Fin 11 → FVec Ideal S32x256 .f32) (t : FVec Ideal S32x64 .f32) (r : Fin 32) (f : Fin 2880 → EReal)
    (hv : ∀ c q, d c (ix2 r q) = f (col c q)) (ht : ∀ q, t (ix2 r q) = f (colT q)) :
    rstd d t (ix2 r 0) = FloatOps.rsqrt (F := Ideal) (φ := .f32) ((∑ j, f j * f j) * kW + kEps) := by
  show FloatOps.rsqrt (F := Ideal) (φ := .f32) ((rowSum (F := Ideal) _ _ (ix2 r 0) : EReal) * _ + _ : EReal) = _
  rw [rowSum_eq (fun c => mulf (d c) (d c)) (mulf t t) r (fun j => f j * f j)
    (fun c q => show (d c (ix2 r q) * d c (ix2 r q) : EReal) = _ by rw [hv])
    (fun q => show (t (ix2 r q) * t (ix2 r q) : EReal) = _ by rw [ht])]
  rfl

/-! ## Maxima -/

theorem maxHalves_apply (acc : FVec Ideal S32x128 .f32) (v : FVec Ideal S32x256 .f32) (r : Fin 32) (l : Fin 128) :
    maxHalves acc v (ix2 r l) = (max (max (acc (ix2 r l)) (v (ix2 r ⟨l.val, by omega⟩))) (v (ix2 r ⟨128 + l.val, by omega⟩)) : EReal) := by
  show (max (max (acc (ix2 r l)) _) _ : EReal) = _
  rw [slice_lo, slice_hi]

theorem ofBits_neg_inf : Ideal.ofBits .f32 0xFF800000#32 = ⊥ := by simp [Ideal.ofBits, Ideal.ieee]

theorem rowMax_le (acc : FVec Ideal S32x128 .f32) (t : FVec Ideal S32x64 .f32) (r : Fin 32) (z : EReal) :
    rowMax acc t (ix2 r 0) ≤ z ↔ (∀ l : Fin 128, (acc (ix2 r l) : EReal) ≤ z) ∧ 0 ≤ z ∧ ∀ q : Fin 64, (t (ix2 r q) : EReal) ≤ z := by
  show (max (shapeCast S32x1 _ shapeCasts_S32_S32x1 (ix2 r 0)) (max (Ideal.ofBits .f32 0x00000000#32) (shapeCast S32x1 _ shapeCasts_S32_S32x1 (ix2 r 0))) : EReal) ≤ z ↔ _
  rw [cast_32x1, cast_32x1, Ideal.ofBits_zero_f32]
  have e1 := Ideal.multiReduction_maximumf_single acc 0xFF800000#32 reduces_S32x128_S32 (.inl rfl) rfl (ix1 r)
  have e2 := Ideal.multiReduction_maximumf_single t 0xFF800000#32 reduces_S32x64_S32 (.inl rfl) rfl (ix1 r)
  rw [max_le_iff, max_le_iff]
  refine and_congr ?_ (and_congr Iff.rfl ?_)
  · refine (iff_of_eq (congrArg (fun x : EReal => x ≤ z) e1)).trans ?_
    refine (Finset.fold_max_le z).trans ?_
    constructor
    · intro h l; have := h.2 l (Finset.mem_univ _); exact (congrArg acc (lift_128 r l)).symm.le.trans this
    · intro h; refine ⟨?_, fun l _ => ?_⟩
      · refine le_trans (le_of_eq ofBits_neg_inf) bot_le
      · exact (congrArg acc (lift_128 r l)).le.trans (h l)
  · refine (iff_of_eq (congrArg (fun x : EReal => x ≤ z) e2)).trans ?_
    refine (Finset.fold_max_le z).trans ?_
    constructor
    · intro h l; have := h.2 l (Finset.mem_univ _); exact (congrArg t (lift_64 r l)).symm.le.trans this
    · intro h; refine ⟨?_, fun l _ => ?_⟩
      · refine le_trans (le_of_eq ofBits_neg_inf) bot_le
      · exact (congrArg t (lift_64 r l)).le.trans (h l)

/-- Every column is in a chunk's lower half, in its upper half, or in the tail. -/
theorem forall_cols (P : Fin 2880 → Prop) :
    (∀ j, P j) ↔ (∀ c : Fin 11, ∀ l : Fin 128, P (col c ⟨l.val, by omega⟩) ∧ P (col c ⟨128 + l.val, by omega⟩)) ∧ ∀ q, P (colT q) := by
  constructor
  · intro h; exact ⟨fun c l => ⟨h _, h _⟩, fun q => h _⟩
  · rintro ⟨h1, h2⟩ j
    by_cases hj : j.val < 2816
    · by_cases hl : j.val % 256 < 128
      · have := (h1 ⟨j.val / 256, by omega⟩ ⟨j.val % 256, hl⟩).1
        rwa [show col ⟨j.val / 256, by omega⟩ ⟨(⟨j.val % 256, hl⟩ : Fin 128).val, by omega⟩ = j from Fin.ext (by show 256 * (j.val / 256) + j.val % 256 = j.val; omega)] at this
      · have := (h1 ⟨j.val / 256, by omega⟩ ⟨j.val % 256 - 128, by omega⟩).2
        rwa [show col ⟨j.val / 256, by omega⟩ ⟨128 + (⟨j.val % 256 - 128, by omega⟩ : Fin 128).val, by show 128 + (j.val % 256 - 128) < 256; omega⟩ = j from
          Fin.ext (by show 256 * (j.val / 256) + (128 + (j.val % 256 - 128)) = j.val; omega)] at this
    · have := h2 ⟨j.val - 2816, by omega⟩
      rwa [show colT ⟨j.val - 2816, by omega⟩ = j from Fin.ext (by show 2816 + (j.val - 2816) = j.val; omega)] at this

end Cert.KernelIdeal.Body

end
-- ==== Proof.Row.lean ====
/- One token's row of 2880, at the extended reals: what the kernel leaves for it. -/
module

public import proofs.«01_k».proof.Proof.Sums

@[expose] public section

set_option maxRecDepth 16384

noncomputable section

namespace Cert.Row

open Idealize.ShloMosaic
open Cert.KernelIdeal.Body (kW kEps)

/-- The deviations from the row's mean, -/
def dev (h : Fin 2880 → EReal) (j : Fin 2880) : EReal := h j - (∑ k, h k) * kW
/-- the reciprocal standard deviation, -/
def rs (h : Fin 2880 → EReal) : EReal := FloatOps.rsqrt (F := Ideal) (φ := .f32) ((∑ j, dev h j * dev h j) * kW + kEps)
/-- the normalized row under the gain `ga` and the bias `nb`, -/
def nrm (h ga nb : Fin 2880 → EReal) (j : Fin 2880) : EReal := dev h j * rs h * ga j + nb j
/-- a row's largest absolute value, -/
def amax (y : Fin 2880 → EReal) : EReal := Finset.univ.fold max ⊥ fun j => max (y j) (-y j)
/-- the number of the powers `2 ^ (k - 127)`, `k = 1 … 255`, not above `u` (and of 0, for `k = 0`), less one, -/
def biased (u : EReal) : BitVec 32 :=
  BitVec.ofNat 32 (Finset.univ.filter fun k : Fin 256 => ¬ u < Ideal.ofBits .f32 (BitVec.ofNat 32 k.val <<< 23)).card - 1#32
/-- the exponent from it, -/
def expo (b : BitVec 32) : BitVec 32 := if b = 0#32 then 0#32 else b - 126#32
/-- a row's exponent, -/
def ex (y : Fin 2880 → EReal) : BitVec 32 := expo (biased (amax y * Ideal.ofBits .f32 0x3B124925#32))
/-- its scale, -/
def scale (y : Fin 2880 → EReal) : EReal := Ideal.ofBits .f32 ((ex y + 127#32) <<< 23)
/-- and its codes. -/
def code (y : Fin 2880 → EReal) (j : Fin 2880) : EReal :=
  min (Ideal.ofBits .f32 0x43E00000#32) (max (Ideal.ofBits .f32 0xC3E00000#32) (y j * Ideal.ofBits .f32 ((127#32 - ex y) <<< 23)))

theorem amax_le (y : Fin 2880 → EReal) (z : EReal) : amax y ≤ z ↔ ∀ j, max (y j) (-y j) ≤ z :=
  (Finset.fold_max_le z).trans ⟨fun h j => h.2 j (Finset.mem_univ _), fun h => ⟨bot_le, fun j _ => h j⟩⟩

theorem abs_nonneg (x : EReal) : 0 ≤ max x (-x) := by
  rcases le_total 0 x with h | h
  · exact le_max_of_le_left h
  · exact le_max_of_le_right (EReal.neg_nonneg.2 h)

end Cert.Row

namespace Cert.KernelIdeal.Body

open Idealize.ShloMosaic Idealize.ShloMosaic.TcCoe Idealize.ShloMosaic.ValueIdx
open Idealize.SL.Sem
open Cert.KernelIdeal.Gen

theorem lift_256 (r : Fin 32) (k : Fin 256) : reduces_S32x256_S32.lift (ix1 r) k = ix2 r k := by
  funext a; match a with | ⟨0, _⟩ => rfl | ⟨1, _⟩ => rfl

theorem shli_23 (x : BitVec 32) : IntOp.shli .vector x 23#32 = x <<< 23 := by
  unfold IntOp.shli; rw [if_pos (by decide)]; rfl

/-- A sum of zeros and ones counts the ones. -/
theorem fold_count {α : Type} [DecidableEq α] (P : α → Prop) [DecidablePred P] (f : α → BitVec 32) (hf : ∀ k, f k = if P k then 0#32 else 1#32) (s : Finset α) :
    s.fold IKind.add.op 0#32 f = BitVec.ofNat 32 (s.filter fun k => ¬ P k).card := by
  induction s using Finset.induction_on with
  | empty => rfl
  | insert a s ha ih =>
    rw [Finset.fold_insert ha, ih, hf, Finset.filter_insert]
    show _ + _ = _
    by_cases h : P a
    · rw [if_pos h, if_neg (not_not.2 h), BitVec.zero_add]
    · rw [if_neg h, if_pos h, Finset.card_insert_of_notMem (fun hm => ha (Finset.mem_filter.1 hm).1), BitVec.add_comm]
      exact (BitVec.ofNat_add _ _).symm

theorem count_apply (v : IVec S32x256 32) (r : Fin 32) (P : Fin 256 → Prop) [DecidablePred P] (hv : ∀ k, v (ix2 r k) = if P k then 0#32 else 1#32) :
    multiReductionI .add [1] S32 v 0#32 reduces_S32x256_S32 rfl (ix1 r) = BitVec.ofNat 32 (Finset.univ.filter fun k => ¬ P k).card := by
  refine (multiReductionI_eq_fold _ _ _ _ _ _).trans ?_
  have hi : Function.Injective (fun k : Fin 256 => (ix2 r k : S32x256.Idx)) := fun a b h => by
    have := congrFun h 1; exact this
  have hs : (Finset.univ.filter fun i : S32x256.Idx => reduces_S32x256_S32.drop i = ix1 r) = Finset.univ.image (fun k : Fin 256 => (ix2 r k : S32x256.Idx)) := by
    ext i
    simp only [Finset.mem_filter, Finset.mem_univ, true_and, Finset.mem_image]
    constructor
    · intro h
      refine ⟨i 1, ?_⟩
      have h0 : i 0 = r := congrFun h 0
      rw [eq_ix2 i]; rw [h0]; rfl
    · rintro ⟨k, rfl⟩
      funext a; match a with | ⟨0, _⟩ => rfl
  rw [hs, Finset.fold_image (fun a _ b _ h => hi h)]
  exact fold_count P _ hv _

theorem biased_apply (a : FVec Ideal S32x1 .f32) (r : Fin 32) :
    biased a (ix2 r 0) = Row.biased (a (ix2 r 0) * Ideal.ofBits .f32 0x3B124925#32) := by
  show shapeCast S32x1 _ shapeCasts_S32_S32x1 (ix2 r 0) - 1#32 = _
  rw [cast_32x1]
  refine congrArg (· - 1#32) (count_apply _ r (fun k => (a (ix2 r 0) * Ideal.ofBits .f32 0x3B124925#32 : EReal) < Ideal.ofBits .f32 (BitVec.ofNat 32 k.val <<< 23)) fun k => ?_)
  have hb : broadcastTo S32x256 (mulf a (broadcast S32x1 (Scalar.ofBits .f32 0x3B124925#32))) broadcasts_S32x1_S32x256 (ix2 r k)
      = (a (ix2 r 0) * Ideal.ofBits .f32 0x3B124925#32 : EReal) := bcast_col256 _ _ _
  have hk : (bitcastToFloat .f32 (shli (iota .tc S32x256 32 [1] iota_S32x256_d1_w32) (broadcast S32x256 23#32)) : FVec Ideal S32x256 .f32) (ix2 r k)
      = Ideal.ofBits .f32 (BitVec.ofNat 32 k.val <<< 23) := by
    show Ideal.ofBits .f32 (IntOp.shli .vector (BitVec.ofNat 32 (0 * 256 + k.val)) 23#32) = _
    rw [shli_23, zero_mul, zero_add]
  rw [select_apply, cmpf_apply, hb, hk]
  by_cases h : (a (ix2 r 0) * Ideal.ofBits .f32 0x3B124925#32 : EReal) < Ideal.ofBits .f32 (BitVec.ofNat 32 k.val <<< 23)
  · rw [if_pos h]
    have : FloatOps.cmpf (F := Ideal) (φ := .f32) .olt (a (ix2 r 0) * Ideal.ofBits .f32 0x3B124925#32 : EReal) (Ideal.ofBits .f32 (BitVec.ofNat 32 k.val <<< 23)) = 1#1 := by
      show BitVec.ofBool (decide _) = _; simp [h]
    rw [this]; rfl
  · rw [if_neg h]
    have : FloatOps.cmpf (F := Ideal) (φ := .f32) .olt (a (ix2 r 0) * Ideal.ofBits .f32 0x3B124925#32 : EReal) (Ideal.ofBits .f32 (BitVec.ofNat 32 k.val <<< 23)) = 0#1 := by
      show BitVec.ofBool (decide _) = _; simp [h]
    rw [this]; rfl

theorem expo_apply (b : IVec S32x1 32) (r : Fin 32) : expo b (ix2 r 0) = Row.expo (b (ix2 r 0)) := by
  show (if (_ : BitVec 1) = 1#1 then (0#32) else b (ix2 r 0) - 126#32) = _
  unfold Row.expo
  by_cases h : b (ix2 r 0) = 0#32
  · rw [if_pos h, if_pos]; show BitVec.ofBool (_ == 0#32) = 1#1; simp [h]
  · rw [if_neg h, if_neg]; show ¬ BitVec.ofBool (b (ix2 r 0) == 0#32) = 1#1; rw [beq_eq_false_iff_ne.2 h]; decide

theorem scale_apply (e : IVec S32x1 32) (r : Fin 32) : (scale e : FVec Ideal S32x1 .f32) (ix2 r 0) = Ideal.ofBits .f32 ((e (ix2 r 0) + 127#32) <<< 23) := by
  show Ideal.ofBits .f32 (IntOp.shli .vector (e (ix2 r 0) + 127#32) 23#32) = _
  rw [shli_23]
theorem invScale_apply (e : IVec S32x1 32) (r : Fin 32) : (invScale e : FVec Ideal S32x1 .f32) (ix2 r 0) = Ideal.ofBits .f32 ((127#32 - e (ix2 r 0)) <<< 23) := by
  show Ideal.ofBits .f32 (IntOp.shli .vector (127#32 - e (ix2 r 0)) 23#32) = _
  rw [shli_23]

end Cert.KernelIdeal.Body

end
-- ==== Proof.Scratch.lean ====
/- What a group leaves at the extended reals: the residual's block, the scratch, the row maxima, the codes and the scales. -/
module

public import proofs.«01_k».proof.Proof.Stage
public import proofs.«01_k».proof.Proof.Row

@[expose] public section

set_option maxRecDepth 16384

noncomputable section

namespace Cert.KernelIdeal.Body

open Idealize.ShloMosaic Idealize.ShloMosaic.TcCoe Idealize.ShloMosaic.ValueIdx
open Idealize.SL.Sem
open Cert.KernelIdeal.Gen

/-- A list of pieces of `G`, one for each of the strips of a group, over a list of pieces of `G`. -/
theorem piecesOf_strips {s : Shape} {e : EltTy} (G : s.Idx → Elt Ideal e) (f : Option (Fin 11) → View.Piece (Elt Ideal) s e)
    (L : List (View.Piece (Elt Ideal) s e)) (hf : ∀ o x, (f o).2 x = G ((f o).1.emb x)) (ss : List (Option (Fin 11)))
    (hL : View.PiecesOf G L) : View.PiecesOf G (ss.map f ++ L) := by
  induction ss with
  | nil => exact hL
  | cons o ss ih => exact ⟨hf o, ih⟩

theorem mem_strips_some (c : Fin 11) : some c ∈ strips := by fin_cases c <;> simp [strips]
theorem mem_strips_none : none ∈ strips := by simp [strips]
theorem mem_chunksRev (c : Fin 11) : c ∈ chunksRev := by fin_cases c <;> simp [chunksRev]
theorem nodup_chunksRev : chunksRev.Nodup := by simp [chunksRev]

/-- Reading back, over any earlier pieces, a list of pieces of `G`, one for each strip. -/
theorem canon_strips {s : Shape} {e : EltTy} (G : s.Idx → Elt Ideal e) (f : Option (Fin 11) → View.Piece (Elt Ideal) s e)
    (L : List (View.Piece (Elt Ideal) s e)) (hf : ∀ o x, (f o).2 x = G ((f o).1.emb x)) (o : Option (Fin 11)) (ho : o ∈ strips) (y : s.Idx) (hy : y ∈ (f o).1.set) :
    View.canon (strips.map f ++ L) y = G y := by
  refine View.canon_append_of_piecesOf G L _ ?_ y ⟨f o, List.mem_map.2 ⟨o, ho, rfl⟩, hy⟩
  have := piecesOf_strips G f [] hf strips trivial
  rwa [List.append_nil] at this

variable (i : grid0.Coords)
  (arg8 : Memref sig .tc .vmem S1x128x2880 .bf16) (arg11 : Memref sig .tc .vmem S128x2880 .f32)
  (x0 : Vec Ideal S8x6x128 .f32) (x1 : Vec Ideal S8x1x128x2880 .fp8e4m3) (x2 : Vec Ideal S1x128x2880 .bf16)
  (x3 : Vec Ideal S1x2880 .f32) (x4 : Vec Ideal S1x2880 .f32) (x5 : Vec Ideal S1x2880 .f32)

/-- The block's residual, at its indices. -/
def Gh (y : S1x128x2880.Idx) : EReal := Hv i x0 x1 x2 x3 (y 1) (y 2)
/-- The deviations of the block's rows. -/
def Gd (y : S128x2880.Idx) : EReal := Row.dev (Hv i x0 x1 x2 x3 (y 0)) (y 1)
/-- The normalized rows, -/
def Yv (n : Fin 128) : Fin 2880 → EReal := Row.nrm (Hv i x0 x1 x2 x3 n) (fun j => x4 (ix2 0 j)) (fun j => x5 (ix2 0 j))
/-- and their codes. -/
def Gq (y : S1x128x2880.Idx) : EReal := Row.code (Yv i x0 x1 x2 x3 x4 x5 (y 1)) (y 2)

theorem res_piece_some (g : Fin 4) (c : Fin 11) (x : S1x32x256.Idx) :
    (shapeCast S1x32x256 (hB i x0 x1 x2 x3 g c) shapeCasts_S32x256_S1x32x256 x : EReal) = Gh i x0 x1 x2 x3 ((rB g c).emb x) := by
  obtain ⟨z, r, q, rfl⟩ : ∃ z r q, x = ix3 z r q := ⟨x 0, x 1, x 2, eq_ix3 x⟩
  rw [cast_add256, hB_apply]
  show _ = Gh i x0 x1 x2 x3 ((rB g c).idx (ix3 z r q))
  rw [idx_B]; rfl
theorem res_piece_none (g : Fin 4) (x : S1x32x64.Idx) :
    (shapeCast S1x32x64 (hT i x0 x1 x2 x3 g) shapeCasts_S32x64_S1x32x64 x : EReal) = Gh i x0 x1 x2 x3 ((rBt g).emb x) := by
  obtain ⟨z, r, q, rfl⟩ : ∃ z r q, x = ix3 z r q := ⟨x 0, x 1, x 2, eq_ix3 x⟩
  rw [cast_add64, hT_apply]
  show _ = Gh i x0 x1 x2 x3 ((rBt g).idx (ix3 z r q))
  rw [idx_Bt]; rfl

/-- Every piece stored into the residual's block is a piece of the residual. -/
theorem res_pieces (gs : List (Fin 4)) : View.PiecesOf (Val := Elt Ideal) (e := .bf16) (Gh i x0 x1 x2 x3) (resL i x0 x1 x2 x3 gs) := by
  induction gs with
  | nil => trivial
  | cons g gs ih =>
    exact piecesOf_strips (e := .bf16) (Gh i x0 x1 x2 x3) _ _ (fun o => match o with | none => res_piece_none i x0 x1 x2 x3 g | some c => res_piece_some i x0 x1 x2 x3 g c) strips ih

/-- The residual's piece of a strip. -/
def resPiece (g : Fin 4) : Option (Fin 11) → View.Piece (Elt Ideal) S1x128x2880 .bf16
  | none => ⟨rBt g, shapeCast S1x32x64 (hT i x0 x1 x2 x3 g) shapeCasts_S32x64_S1x32x64⟩
  | some c => ⟨rB g c, shapeCast S1x32x256 (hB i x0 x1 x2 x3 g c) shapeCasts_S32x256_S1x32x256⟩

theorem gRes_eq (g : Fin 4) (L : List (View.Piece (Elt Ideal) S1x128x2880 .bf16)) : gRes i x0 x1 x2 x3 g L = strips.map (resPiece i x0 x1 x2 x3 g) ++ L := by
  unfold gRes resOver
  refine congrArg (· ++ L) (List.map_congr_left fun o _ => ?_)
  match o with | none => rfl | some c => rfl

theorem resPiece_of (g : Fin 4) : ∀ (o : Option (Fin 11)) (x), (resPiece i x0 x1 x2 x3 g o).2 x = Gh i x0 x1 x2 x3 ((resPiece i x0 x1 x2 x3 g o).1.emb x)
  | none => res_piece_none i x0 x1 x2 x3 g
  | some c => res_piece_some i x0 x1 x2 x3 g c

theorem resPiece_rect_some (g : Fin 4) (c : Fin 11) : (resPiece i x0 x1 x2 x3 g (some c)).1 = rB g c := rfl
theorem resPiece_rect_none (g : Fin 4) : (resPiece i x0 x1 x2 x3 g none).1 = rBt g := rfl

/-- Within the group's strips the residual's block reads as the residual. -/
theorem canon_gRes (g : Fin 4) (L : List (View.Piece (Elt Ideal) S1x128x2880 .bf16)) (y : S1x128x2880.Idx)
    (hy : (∃ c, y ∈ (rB g c).set) ∨ y ∈ (rBt g).set) : View.canon (gRes i x0 x1 x2 x3 g L) y = Gh i x0 x1 x2 x3 y := by
  rw [gRes_eq]
  rcases hy with ⟨c, hc⟩ | hc
  · rw [← resPiece_rect_some i x0 x1 x2 x3 g c] at hc
    exact canon_strips (e := .bf16) (Gh i x0 x1 x2 x3) (resPiece i x0 x1 x2 x3 g) L (resPiece_of i x0 x1 x2 x3 g) (some c) (mem_strips_some c) y hc
  · rw [← resPiece_rect_none i x0 x1 x2 x3 g] at hc
    exact canon_strips (e := .bf16) (Gh i x0 x1 x2 x3) (resPiece i x0 x1 x2 x3 g) L (resPiece_of i x0 x1 x2 x3 g) none mem_strips_none y hc

theorem mem_B (g : Fin 4) (c : Fin 11) (r : Fin 32) (q : Fin 256) : (ix3 0 (row g r) (col c q) : S1x128x2880.Idx) ∈ (rB g c).set := by
  have h := (rB g c).idx_mem (ix3 0 r q)
  rw [idx_B] at h; exact h
theorem mem_Bt (g : Fin 4) (r : Fin 32) (q : Fin 64) : (ix3 0 (row g r) (colT q) : S1x128x2880.Idx) ∈ (rBt g).set := by
  have h := (rBt g).idx_mem (ix3 0 r q)
  rw [idx_Bt] at h; exact h

theorem read_res (g : Fin 4) (L : List (View.Piece (Elt Ideal) S1x128x2880 .bf16)) (c : Fin 11) (r : Fin 32) (q : Fin 256) :
    (arg8.view.readCov (gRes i x0 x1 x2 x3 g L) (rB g c).toLoadRect (ix3 0 r q) : EReal) = Hv i x0 x1 x2 x3 (row g r) (col c q) := by
  rw [View.readCov_eq_canon']
  refine (congrArg (View.canon _) (idx_B g c 0 r q)).trans ?_
  exact canon_gRes i x0 x1 x2 x3 g L _ (.inl ⟨c, mem_B g c r q⟩)
theorem read_resT (g : Fin 4) (L : List (View.Piece (Elt Ideal) S1x128x2880 .bf16)) (r : Fin 32) (q : Fin 64) :
    (arg8.view.readCov (gRes i x0 x1 x2 x3 g L) (rBt g).toLoadRect (ix3 0 r q) : EReal) = Hv i x0 x1 x2 x3 (row g r) (colT q) := by
  rw [View.readCov_eq_canon']
  refine (congrArg (View.canon _) (idx_Bt g 0 r q)).trans ?_
  exact canon_gRes i x0 x1 x2 x3 g L _ (.inr (mem_Bt g r q))

theorem gMean_apply (g : Fin 4) (r : Fin 32) : (gMean i x0 x1 x2 x3 g (ix2 r 0) : EReal) = (∑ j, Hv i x0 x1 x2 x3 (row g r) j) * kW :=
  mean_apply _ _ r _ (fun c q => hB_apply i x0 x1 x2 x3 g c r q) (fun q => hT_apply i x0 x1 x2 x3 g r q)

theorem dB_apply (rd : FVec Ideal S1x32x256 .bf16) (mu : FVec Ideal S32x1 .f32) (r : Fin 32) (q : Fin 256) :
    (dB rd mu (ix2 r q) : EReal) = rd (ix3 0 r q) - mu (ix2 r 0) := by
  show (shapeCast S32x256 rd shapeCasts_S1x32x256_S32x256 (ix2 r q) - broadcastTo S32x256 mu broadcasts_S32x1_S32x256 (ix2 r q) : EReal) = _
  rw [cast_drop256, bcast_col256]
theorem dT_apply (rd : FVec Ideal S1x32x64 .bf16) (mu : FVec Ideal S32x1 .f32) (r : Fin 32) (q : Fin 64) :
    (dT rd mu (ix2 r q) : EReal) = rd (ix3 0 r q) - mu (ix2 r 0) := by
  show (shapeCast S32x64 rd shapeCasts_S1x32x64_S32x64 (ix2 r q) - broadcastTo S32x64 mu broadcasts_S32x1_S32x64 (ix2 r q) : EReal) = _
  rw [cast_drop64, bcast_col64]

theorem gDev_apply (g : Fin 4) (L : List (View.Piece (Elt Ideal) S1x128x2880 .bf16)) (c : Fin 11) (r : Fin 32) (q : Fin 256) :
    (gDev i arg8 x0 x1 x2 x3 g L c (ix2 r q) : EReal) = Row.dev (Hv i x0 x1 x2 x3 (row g r)) (col c q) :=
  (dB_apply _ _ r q).trans (congrArg₂ (fun a b : EReal => a - b) (read_res i arg8 x0 x1 x2 x3 g L c r q) (gMean_apply i x0 x1 x2 x3 g r))
theorem gDevT_apply (g : Fin 4) (L : List (View.Piece (Elt Ideal) S1x128x2880 .bf16)) (r : Fin 32) (q : Fin 64) :
    (gDevT i arg8 x0 x1 x2 x3 g L (ix2 r q) : EReal) = Row.dev (Hv i x0 x1 x2 x3 (row g r)) (colT q) :=
  (dT_apply _ _ r q).trans (congrArg₂ (fun a b : EReal => a - b) (read_resT i arg8 x0 x1 x2 x3 g L r q) (gMean_apply i x0 x1 x2 x3 g r))

theorem gRstd_apply (g : Fin 4) (L) (r : Fin 32) : (gRstd i arg8 x0 x1 x2 x3 g L (ix2 r 0) : EReal) = Row.rs (Hv i x0 x1 x2 x3 (row g r)) :=
  rstd_apply _ _ r _ (fun c q => gDev_apply i arg8 x0 x1 x2 x3 g L c r q) (fun q => gDevT_apply i arg8 x0 x1 x2 x3 g L r q)

theorem dev_piece_some (g : Fin 4) (L) (c : Fin 11) (x : S32x256.Idx) :
    (shapeCast S32x256 (gDev i arg8 x0 x1 x2 x3 g L c) shapeCasts_S32x256_S32x256 x : EReal) = Gd i x0 x1 x2 x3 ((rS g c).emb x) := by
  obtain ⟨r, q, rfl⟩ : ∃ r q, x = ix2 r q := ⟨x 0, x 1, eq_ix2 x⟩
  rw [cast_self, gDev_apply]
  show _ = Gd i x0 x1 x2 x3 ((rS g c).idx (ix2 r q))
  rw [idx_S]; rfl
theorem dev_piece_none (g : Fin 4) (L) (x : S32x64.Idx) :
    (shapeCast S32x64 (gDevT i arg8 x0 x1 x2 x3 g L) shapeCasts_S32x64_S32x64 x : EReal) = Gd i x0 x1 x2 x3 ((rSt g).emb x) := by
  obtain ⟨r, q, rfl⟩ : ∃ r q, x = ix2 r q := ⟨x 0, x 1, eq_ix2 x⟩
  rw [cast_self, gDevT_apply]
  show _ = Gd i x0 x1 x2 x3 ((rSt g).idx (ix2 r q))
  rw [idx_St]; rfl

/-- The deviations' piece of a strip. -/
def devPiece (g : Fin 4) (L : List (View.Piece (Elt Ideal) S1x128x2880 .bf16)) : Option (Fin 11) → View.Piece (Elt Ideal) S128x2880 .f32
  | none => ⟨rSt g, shapeCast S32x64 (gDevT i arg8 x0 x1 x2 x3 g L) shapeCasts_S32x64_S32x64⟩
  | some c => ⟨rS g c, shapeCast S32x256 (gDev i arg8 x0 x1 x2 x3 g L c) shapeCasts_S32x256_S32x256⟩

theorem gScr_eq (g : Fin 4) (L) (M : List (View.Piece (Elt Ideal) S128x2880 .f32)) :
    gScr i arg8 x0 x1 x2 x3 g L M = strips.map (devPiece i arg8 x0 x1 x2 x3 g L) ++ M := by
  unfold gScr devOver
  refine congrArg (· ++ M) (List.map_congr_left fun o _ => ?_)
  match o with | none => rfl | some c => rfl

theorem devPiece_of (g : Fin 4) (L) : ∀ (o : Option (Fin 11)) (x), (devPiece i arg8 x0 x1 x2 x3 g L o).2 x = Gd i x0 x1 x2 x3 ((devPiece i arg8 x0 x1 x2 x3 g L o).1.emb x)
  | none => dev_piece_none i arg8 x0 x1 x2 x3 g L
  | some c => dev_piece_some i arg8 x0 x1 x2 x3 g L c

theorem devPiece_rect_some (g : Fin 4) (L) (c : Fin 11) : (devPiece i arg8 x0 x1 x2 x3 g L (some c)).1 = rS g c := rfl
theorem devPiece_rect_none (g : Fin 4) (L) : (devPiece i arg8 x0 x1 x2 x3 g L none).1 = rSt g := rfl

/-- Within the group's strips the scratch reads, after the second pass, as the deviations; -/
theorem canon_gScr (g : Fin 4) (L) (M : List (View.Piece (Elt Ideal) S128x2880 .f32)) (y : S128x2880.Idx)
    (hy : (∃ c, y ∈ (rS g c).set) ∨ y ∈ (rSt g).set) : View.canon (gScr i arg8 x0 x1 x2 x3 g L M) y = Gd i x0 x1 x2 x3 y := by
  rw [gScr_eq]
  rcases hy with ⟨c, hc⟩ | hc
  · rw [← devPiece_rect_some i arg8 x0 x1 x2 x3 g L c] at hc
    exact canon_strips (e := .f32) (Gd i x0 x1 x2 x3) (devPiece i arg8 x0 x1 x2 x3 g L) M (devPiece_of i arg8 x0 x1 x2 x3 g L) (some c) (mem_strips_some c) y hc
  · rw [← devPiece_rect_none i arg8 x0 x1 x2 x3 g L] at hc
    exact canon_strips (e := .f32) (Gd i x0 x1 x2 x3) (devPiece i arg8 x0 x1 x2 x3 g L) M (devPiece_of i arg8 x0 x1 x2 x3 g L) none mem_strips_none y hc

theorem mem_S (g : Fin 4) (c : Fin 11) (r : Fin 32) (q : Fin 256) : (ix2 (row g r) (col c q) : S128x2880.Idx) ∈ (rS g c).set := by
  have h := (rS g c).idx_mem (ix2 r q)
  rw [idx_S] at h; exact h
theorem mem_St (g : Fin 4) (r : Fin 32) (q : Fin 64) : (ix2 (row g r) (colT q) : S128x2880.Idx) ∈ (rSt g).set := by
  have h := (rSt g).idx_mem (ix2 r q)
  rw [idx_St] at h; exact h

/-- at a chunk, -/
theorem scr_some (g : Fin 4) (L) (M) (c : Fin 11) (r : Fin 32) (q : Fin 256) :
    (View.canon (gScr i arg8 x0 x1 x2 x3 g L M) (ix2 (row g r) (col c q)) : EReal) = Row.dev (Hv i x0 x1 x2 x3 (row g r)) (col c q) :=
  canon_gScr i arg8 x0 x1 x2 x3 g L M _ (.inl ⟨c, mem_S g c r q⟩)
/-- and at the tail. -/
theorem scr_none (g : Fin 4) (L) (M) (r : Fin 32) (q : Fin 64) :
    (View.canon (gScr i arg8 x0 x1 x2 x3 g L M) (ix2 (row g r) (colT q)) : EReal) = Row.dev (Hv i x0 x1 x2 x3 (row g r)) (colT q) :=
  canon_gScr i arg8 x0 x1 x2 x3 g L M _ (.inr (mem_St g r q))

theorem not_mem_S (g : Fin 4) (c c' : Fin 11) (h : c ≠ c') (r : Fin 32) (q : Fin 256) : (ix2 (row g r) (col c q) : S128x2880.Idx) ∉ (rS g c').set := by
  intro hm
  have := Rect.mem_set_unit.1 hm 1
  have h1 : 256 * c'.val ≤ 256 * c.val + q.val ∧ 256 * c.val + q.val < 256 * c'.val + 256 := this
  exact h (Fin.ext (by omega))
theorem not_mem_S' (g : Fin 4) (c' : Fin 11) (r : Fin 32) (q : Fin 64) : (ix2 (row g r) (colT q) : S128x2880.Idx) ∉ (rS g c').set := by
  intro hm
  have := Rect.mem_set_unit.1 hm 1
  have h1 : 256 * c'.val ≤ 2816 + q.val ∧ 2816 + q.val < 256 * c'.val + 256 := this
  omega
theorem not_mem_St (g : Fin 4) (c : Fin 11) (r : Fin 32) (q : Fin 256) : (ix2 (row g r) (col c q) : S128x2880.Idx) ∉ (rSt g).set := by
  intro hm
  have := Rect.mem_set_unit.1 hm 1
  have h1 : 2816 ≤ 256 * c.val + q.val ∧ 256 * c.val + q.val < 2816 + 64 := this
  omega

theorem yB_apply (rd : FVec Ideal S32x256 .f32) (g : Fin 4) (L) (c : Fin 11) (r : Fin 32) (q : Fin 256)
    (h : (rd (ix2 r q) : EReal) = Row.dev (Hv i x0 x1 x2 x3 (row g r)) (col c q)) :
    (yB rd (gRstd i arg8 x0 x1 x2 x3 g L) x4 x5 c (ix2 r q) : EReal) = Yv i x0 x1 x2 x3 x4 x5 (row g r) (col c q) := by
  show (rd (ix2 r q) * broadcastTo S32x256 _ broadcasts_S32x1_S32x256 (ix2 r q) * par x4 c (ix2 r q) + par x5 c (ix2 r q) : EReal) = _
  rw [bcast_col256, par_apply, par_apply, h, gRstd_apply]; rfl
theorem yT_apply (rd : FVec Ideal S32x64 .f32) (g : Fin 4) (L) (r : Fin 32) (q : Fin 64)
    (h : (rd (ix2 r q) : EReal) = Row.dev (Hv i x0 x1 x2 x3 (row g r)) (colT q)) :
    (yT rd (gRstd i arg8 x0 x1 x2 x3 g L) x4 x5 (ix2 r q) : EReal) = Yv i x0 x1 x2 x3 x4 x5 (row g r) (colT q) := by
  show (rd (ix2 r q) * broadcastTo S32x64 _ broadcasts_S32x1_S32x64 (ix2 r q) * parT x4 (ix2 r q) + parT x5 (ix2 r q) : EReal) = _
  rw [bcast_col64, parT_apply, parT_apply, h, gRstd_apply]; rfl

/-- The scratch in the third pass over the group's chunks `cs`: normalized where the pass has been, -/
theorem yList_some (g : Fin 4) (L) (M) (cs : List (Fin 11)) (hn : cs.Nodup) (c : Fin 11) (r : Fin 32) (q : Fin 256) :
    (View.canon (yList arg11 (gRstd i arg8 x0 x1 x2 x3 g L) x4 x5 g (gScr i arg8 x0 x1 x2 x3 g L M) cs) (ix2 (row g r) (col c q)) : EReal)
      = if c ∈ cs then Yv i x0 x1 x2 x3 x4 x5 (row g r) (col c q) else Row.dev (Hv i x0 x1 x2 x3 (row g r)) (col c q) := by
  induction cs with
  | nil => exact scr_some i arg8 x0 x1 x2 x3 g L M c r q
  | cons c' cs ih =>
    have hn' := List.nodup_cons.1 hn
    have ih := ih hn'.2
    by_cases hc : c = c'
    · subst hc
      rw [if_neg hn'.1] at ih
      rw [if_pos List.mem_cons_self]
      refine (congrArg (View.canon _) (idx_S g c r q).symm).trans ?_
      refine (View.canon_cons_emb (rS g c) _ _ (ix2 r q)).trans ?_
      refine (congrFun (cast_self (s := S32x256) _ _) (ix2 r q)).trans ?_
      refine yB_apply i arg8 x0 x1 x2 x3 x4 x5 _ g L c r q ?_
      rw [View.readCov_eq_canon']
      refine Eq.trans ?_ ih
      exact congrArg (View.canon _) (idx_S g c r q)
    · refine (View.canon_cons_of_not_mem ⟨rS g c', _⟩ _ (not_mem_S g c c' hc r q)).trans (ih.trans ?_)
      by_cases h : c ∈ cs
      · rw [if_pos h, if_pos (List.mem_cons_of_mem _ h)]
      · rw [if_neg h, if_neg (fun hm => (List.mem_cons.1 hm).elim hc h)]
/-- and the deviations at the tail. -/
theorem yList_none (g : Fin 4) (L) (M) (cs : List (Fin 11)) (r : Fin 32) (q : Fin 64) :
    (View.canon (yList arg11 (gRstd i arg8 x0 x1 x2 x3 g L) x4 x5 g (gScr i arg8 x0 x1 x2 x3 g L M) cs) (ix2 (row g r) (colT q)) : EReal)
      = Row.dev (Hv i x0 x1 x2 x3 (row g r)) (colT q) := by
  induction cs with
  | nil => exact scr_none i arg8 x0 x1 x2 x3 g L M r q
  | cons c' cs ih => exact (View.canon_cons_of_not_mem ⟨rS g c', _⟩ _ (not_mem_S' g c' r q)).trans ih

/-- The running maxima of a row after the chunks `cs`. -/
theorem yMax_le (g : Fin 4) (L) (M) (cs : List (Fin 11)) (hn : cs.Nodup) (r : Fin 32) (l : Fin 128) (z : EReal) :
    (yMax arg11 (gRstd i arg8 x0 x1 x2 x3 g L) x4 x5 g (gScr i arg8 x0 x1 x2 x3 g L M) cs (ix2 r l) : EReal) ≤ z
      ↔ 0 ≤ z ∧ ∀ c ∈ cs, (max (Yv i x0 x1 x2 x3 x4 x5 (row g r) (col c ⟨l.val, by omega⟩)) (-Yv i x0 x1 x2 x3 x4 x5 (row g r) (col c ⟨l.val, by omega⟩)) ≤ z)
        ∧ max (Yv i x0 x1 x2 x3 x4 x5 (row g r) (col c ⟨128 + l.val, by omega⟩)) (-Yv i x0 x1 x2 x3 x4 x5 (row g r) (col c ⟨128 + l.val, by omega⟩)) ≤ z := by
  induction cs with
  | nil =>
    show (Ideal.ofBits .f32 0x00000000#32 : EReal) ≤ z ↔ _
    rw [Ideal.ofBits_zero_f32]; simp
  | cons c cs ih =>
    have hn' := List.nodup_cons.1 hn
    have ih := ih hn'.2
    have hy : ∀ q : Fin 256, (yB (arg11.view.readCov (yList arg11 (gRstd i arg8 x0 x1 x2 x3 g L) x4 x5 g (gScr i arg8 x0 x1 x2 x3 g L M) cs) (rS g c).toLoadRect)
        (gRstd i arg8 x0 x1 x2 x3 g L) x4 x5 c (ix2 r q) : EReal) = Yv i x0 x1 x2 x3 x4 x5 (row g r) (col c q) := fun q => by
      refine yB_apply i arg8 x0 x1 x2 x3 x4 x5 _ g L c r q ?_
      rw [View.readCov_eq_canon']
      refine (congrArg (View.canon _) (idx_S g c r q)).trans ?_
      refine (yList_some i arg8 arg11 x0 x1 x2 x3 x4 x5 g L M cs hn'.2 c r q).trans ?_
      rw [if_neg hn'.1]
    refine (iff_of_eq (congrArg (fun v : EReal => v ≤ z) (maxHalves_apply _ (absf _) r l))).trans ?_
    rw [max_le_iff, max_le_iff, List.forall_mem_cons]
    refine (and_congr (and_congr ih ?_) ?_).trans ⟨fun h => ⟨h.1.1.1, ⟨h.1.2, h.2⟩, h.1.1.2⟩, fun h => ⟨⟨⟨h.1, h.2.2⟩, h.2.1.1⟩, h.2.1.2⟩⟩
    · refine iff_of_eq (congrArg (fun v : EReal => max v (-v) ≤ z) (hy ⟨l.val, by omega⟩))
    · refine iff_of_eq (congrArg (fun v : EReal => max v (-v) ≤ z) (hy ⟨128 + l.val, by omega⟩))

theorem yLast_apply (g : Fin 4) (L) (M) (r : Fin 32) (q : Fin 64) :
    (yLast arg11 (gRstd i arg8 x0 x1 x2 x3 g L) x4 x5 g (gScr i arg8 x0 x1 x2 x3 g L M) (ix2 r q) : EReal) = Yv i x0 x1 x2 x3 x4 x5 (row g r) (colT q) := by
  refine yT_apply i arg8 x0 x1 x2 x3 x4 x5 _ g L r q ?_
  rw [View.readCov_eq_canon']
  refine (congrArg (View.canon _) (idx_St g r q)).trans ?_
  exact yList_none i arg8 arg11 x0 x1 x2 x3 x4 x5 g L M chunksRev r q

/-- Each row's largest absolute value. -/
theorem amax_apply (g : Fin 4) (L) (M) (r : Fin 32) :
    (amax arg11 (gRstd i arg8 x0 x1 x2 x3 g L) x4 x5 g (gScr i arg8 x0 x1 x2 x3 g L M) (ix2 r 0) : EReal) = Row.amax (Yv i x0 x1 x2 x3 x4 x5 (row g r)) := by
  refine eq_of_forall_ge_iff fun z => ?_
  refine (rowMax_le _ _ r z).trans ?_
  rw [Row.amax_le, forall_cols]
  constructor
  · rintro ⟨h1, h2, h3⟩
    refine ⟨fun c l => ((yMax_le i arg8 arg11 x0 x1 x2 x3 x4 x5 g L M chunksRev nodup_chunksRev r l z).1 (h1 l)).2 c (mem_chunksRev c), fun q => ?_⟩
    have := h3 q
    refine (iff_of_eq (congrArg (fun v : EReal => max v (-v) ≤ z) (yLast_apply i arg8 arg11 x0 x1 x2 x3 x4 x5 g L M r q))).1 this
  · rintro ⟨h1, h2⟩
    have h0 : 0 ≤ z := (Row.abs_nonneg _).trans (h2 0)
    refine ⟨fun l => (yMax_le i arg8 arg11 x0 x1 x2 x3 x4 x5 g L M chunksRev nodup_chunksRev r l z).2 ⟨h0, fun c _ => h1 c l⟩, h0, fun q => ?_⟩
    exact (iff_of_eq (congrArg (fun v : EReal => max v (-v) ≤ z) (yLast_apply i arg8 arg11 x0 x1 x2 x3 x4 x5 g L M r q))).2 (h2 q)

/-- Each row's exponent. -/
theorem gExpo_apply (g : Fin 4) (L) (M) (r : Fin 32) :
    gExpo i arg8 arg11 x0 x1 x2 x3 x4 x5 g L M (ix2 r 0) = Row.ex (Yv i x0 x1 x2 x3 x4 x5 (row g r)) := by
  show expo _ (ix2 r 0) = _
  rw [expo_apply, biased_apply, amax_apply]; rfl

/-- After the third pass the scratch holds the group's normalized rows: at a chunk, -/
theorem scr'_some (g : Fin 4) (L) (M) (c : Fin 11) (r : Fin 32) (q : Fin 256) :
    (View.canon (gScr' i arg8 arg11 x0 x1 x2 x3 x4 x5 g L M) (ix2 (row g r) (col c q)) : EReal) = Yv i x0 x1 x2 x3 x4 x5 (row g r) (col c q) := by
  refine (View.canon_cons_of_not_mem ⟨rSt g, _⟩ _ (not_mem_St g c r q)).trans ?_
  refine (yList_some i arg8 arg11 x0 x1 x2 x3 x4 x5 g L M chunksRev nodup_chunksRev c r q).trans ?_
  rw [if_pos (mem_chunksRev c)]
/-- and at the tail. -/
theorem scr'_none (g : Fin 4) (L) (M) (r : Fin 32) (q : Fin 64) :
    (View.canon (gScr' i arg8 arg11 x0 x1 x2 x3 x4 x5 g L M) (ix2 (row g r) (colT q)) : EReal) = Yv i x0 x1 x2 x3 x4 x5 (row g r) (colT q) := by
  refine (congrArg (View.canon _) (idx_St g r q).symm).trans ?_
  refine (View.canon_cons_emb (rSt g) _ _ (ix2 r q)).trans ?_
  refine (congrFun (cast_self (s := S32x64) _ _) (ix2 r q)).trans ?_
  exact yLast_apply i arg8 arg11 x0 x1 x2 x3 x4 x5 g L M r q

theorem code_piece_some (g : Fin 4) (L) (M) (c : Fin 11) (x : S1x32x256.Idx) :
    (shapeCast S1x32x256 (qB (F := Ideal) (arg11.view.readCov (gScr' i arg8 arg11 x0 x1 x2 x3 x4 x5 g L M) (rS g c).toLoadRect) (invScale (gExpo i arg8 arg11 x0 x1 x2 x3 x4 x5 g L M)))
      shapeCasts_S32x256_S1x32x256 x : EReal) = Gq i x0 x1 x2 x3 x4 x5 ((rB g c).emb x) := by
  obtain ⟨z, r, q, rfl⟩ : ∃ z r q, x = ix3 z r q := ⟨x 0, x 1, x 2, eq_ix3 x⟩
  rw [cast_add256]
  have hr : (arg11.view.readCov (gScr' i arg8 arg11 x0 x1 x2 x3 x4 x5 g L M) (rS g c).toLoadRect (ix2 r q) : EReal) = Yv i x0 x1 x2 x3 x4 x5 (row g r) (col c q) := by
    rw [View.readCov_eq_canon']
    refine (congrArg (View.canon _) (idx_S g c r q)).trans ?_
    exact scr'_some i arg8 arg11 x0 x1 x2 x3 x4 x5 g L M c r q
  have hi : (broadcastTo S32x256 (invScale (F := Ideal) (gExpo i arg8 arg11 x0 x1 x2 x3 x4 x5 g L M)) broadcasts_S32x1_S32x256 (ix2 r q) : EReal)
      = Ideal.ofBits .f32 ((127#32 - Row.ex (Yv i x0 x1 x2 x3 x4 x5 (row g r))) <<< 23) := by
    rw [bcast_col256, invScale_apply, gExpo_apply]
  refine (congrArg₂ (fun a b : EReal => min (Ideal.ofBits .f32 0x43E00000#32) (max (Ideal.ofBits .f32 0xC3E00000#32) (a * b))) hr hi).trans ?_
  show _ = Gq i x0 x1 x2 x3 x4 x5 ((rB g c).idx (ix3 z r q))
  rw [idx_B]; rfl
theorem code_piece_none (g : Fin 4) (L) (M) (x : S1x32x64.Idx) :
    (shapeCast S1x32x64 (qT (F := Ideal) (arg11.view.readCov (gScr' i arg8 arg11 x0 x1 x2 x3 x4 x5 g L M) (rSt g).toLoadRect) (invScale (gExpo i arg8 arg11 x0 x1 x2 x3 x4 x5 g L M)))
      shapeCasts_S32x64_S1x32x64 x : EReal) = Gq i x0 x1 x2 x3 x4 x5 ((rBt g).emb x) := by
  obtain ⟨z, r, q, rfl⟩ : ∃ z r q, x = ix3 z r q := ⟨x 0, x 1, x 2, eq_ix3 x⟩
  rw [cast_add64]
  have hr : (arg11.view.readCov (gScr' i arg8 arg11 x0 x1 x2 x3 x4 x5 g L M) (rSt g).toLoadRect (ix2 r q) : EReal) = Yv i x0 x1 x2 x3 x4 x5 (row g r) (colT q) := by
    rw [View.readCov_eq_canon']
    refine (congrArg (View.canon _) (idx_St g r q)).trans ?_
    exact scr'_none i arg8 arg11 x0 x1 x2 x3 x4 x5 g L M r q
  have hi : (broadcastTo S32x64 (invScale (F := Ideal) (gExpo i arg8 arg11 x0 x1 x2 x3 x4 x5 g L M)) broadcasts_S32x1_S32x64 (ix2 r q) : EReal)
      = Ideal.ofBits .f32 ((127#32 - Row.ex (Yv i x0 x1 x2 x3 x4 x5 (row g r))) <<< 23) := by
    rw [bcast_col64, invScale_apply, gExpo_apply]
  refine (congrArg₂ (fun a b : EReal => min (Ideal.ofBits .f32 0x43E00000#32) (max (Ideal.ofBits .f32 0xC3E00000#32) (a * b))) hr hi).trans ?_
  show _ = Gq i x0 x1 x2 x3 x4 x5 ((rBt g).idx (ix3 z r q))
  rw [idx_Bt]; rfl

/-- The codes' piece of a strip. -/
def codePiece (g : Fin 4) (L : List (View.Piece (Elt Ideal) S1x128x2880 .bf16)) (M : List (View.Piece (Elt Ideal) S128x2880 .f32)) : Option (Fin 11) → View.Piece (Elt Ideal) S1x128x2880 .fp8e4m3
  | none => ⟨rBt g, shapeCast S1x32x64 (qT (F := Ideal) (arg11.view.readCov (gScr' i arg8 arg11 x0 x1 x2 x3 x4 x5 g L M) (rSt g).toLoadRect)
      (invScale (gExpo i arg8 arg11 x0 x1 x2 x3 x4 x5 g L M))) shapeCasts_S32x64_S1x32x64⟩
  | some c => ⟨rB g c, shapeCast S1x32x256 (qB (F := Ideal) (arg11.view.readCov (gScr' i arg8 arg11 x0 x1 x2 x3 x4 x5 g L M) (rS g c).toLoadRect)
      (invScale (gExpo i arg8 arg11 x0 x1 x2 x3 x4 x5 g L M))) shapeCasts_S32x256_S1x32x256⟩

theorem gCodes_eq (g : Fin 4) (L) (M) (N : List (View.Piece (Elt Ideal) S1x128x2880 .fp8e4m3)) :
    gCodes i arg8 arg11 x0 x1 x2 x3 x4 x5 g L M N = strips.map (codePiece i arg8 arg11 x0 x1 x2 x3 x4 x5 g L M) ++ N := by
  unfold gCodes codesOver
  refine congrArg (· ++ N) (List.map_congr_left fun o _ => ?_)
  match o with | none => rfl | some c => rfl

theorem codePiece_of (g : Fin 4) (L) (M) : ∀ (o : Option (Fin 11)) (x), (codePiece i arg8 arg11 x0 x1 x2 x3 x4 x5 g L M o).2 x
      = Gq i x0 x1 x2 x3 x4 x5 ((codePiece i arg8 arg11 x0 x1 x2 x3 x4 x5 g L M o).1.emb x)
  | none => code_piece_none i arg8 arg11 x0 x1 x2 x3 x4 x5 g L M
  | some c => code_piece_some i arg8 arg11 x0 x1 x2 x3 x4 x5 g L M c

/-- Every piece stored into the codes' block is a piece of the codes. -/
theorem code_pieces (gs : List (Fin 4)) : View.PiecesOf (Val := Elt Ideal) (e := .fp8e4m3) (Gq i x0 x1 x2 x3 x4 x5) (codesL i arg8 arg11 x0 x1 x2 x3 x4 x5 gs) := by
  induction gs with
  | nil => trivial
  | cons g gs ih =>
    show View.PiecesOf _ (gCodes i arg8 arg11 x0 x1 x2 x3 x4 x5 g _ _ _)
    rw [gCodes_eq]
    exact piecesOf_strips (e := .fp8e4m3) (Gq i x0 x1 x2 x3 x4 x5) _ _ (codePiece_of i arg8 arg11 x0 x1 x2 x3 x4 x5 g _ _) strips ih

/-- Every index of a block is in a strip of a group. -/
theorem block_cases (y : S1x128x2880.Idx) : ∃ g : Fin 4, (∃ c, y ∈ (rB g c).set) ∨ y ∈ (rBt g).set := by
  obtain ⟨z, n, j, rfl⟩ : ∃ z n j, y = ix3 z n j := ⟨y 0, y 1, y 2, eq_ix3 y⟩
  obtain rfl : z = 0 := Subsingleton.elim _ _
  have hn : n = row ⟨n.val / 32, by omega⟩ ⟨n.val % 32, by omega⟩ := Fin.ext (by show n.val = 32 * (n.val / 32) + n.val % 32; omega)
  refine ⟨⟨n.val / 32, by omega⟩, ?_⟩
  by_cases hj : j.val < 2816
  · have hc : j = col ⟨j.val / 256, by omega⟩ ⟨j.val % 256, by omega⟩ := Fin.ext (by show j.val = 256 * (j.val / 256) + j.val % 256; omega)
    refine .inl ⟨⟨j.val / 256, by omega⟩, ?_⟩
    have := mem_B ⟨n.val / 32, by omega⟩ ⟨j.val / 256, by omega⟩ ⟨n.val % 32, by omega⟩ ⟨j.val % 256, by omega⟩
    rwa [← hn, ← hc] at this
  · have hc : j = colT ⟨j.val - 2816, by omega⟩ := Fin.ext (by show j.val = 2816 + (j.val - 2816); omega)
    refine .inr ?_
    have := mem_Bt ⟨n.val / 32, by omega⟩ ⟨n.val % 32, by omega⟩ ⟨j.val - 2816, by omega⟩
    rwa [← hn, ← hc] at this

theorem resL_covers (gs : List (Fin 4)) (g : Fin 4) (hg : g ∈ gs) (y : S1x128x2880.Idx) (hy : (∃ c, y ∈ (rB g c).set) ∨ y ∈ (rBt g).set) :
    ∃ p ∈ resL i x0 x1 x2 x3 gs, y ∈ p.1.set := by
  induction gs with
  | nil => exact absurd hg List.not_mem_nil
  | cons g' gs ih =>
    have e : resL i x0 x1 x2 x3 (g' :: gs) = strips.map (resPiece i x0 x1 x2 x3 g') ++ resL i x0 x1 x2 x3 gs := gRes_eq i x0 x1 x2 x3 g' _
    rw [e]
    rcases List.mem_cons.1 hg with rfl | h
    · rcases hy with ⟨c, hc⟩ | hc
      · exact ⟨_, List.mem_append_left _ (List.mem_map_of_mem (mem_strips_some c)), hc⟩
      · exact ⟨_, List.mem_append_left _ (List.mem_map_of_mem mem_strips_none), hc⟩
    · obtain ⟨p, hp, hm⟩ := ih h
      exact ⟨p, List.mem_append_right _ hp, hm⟩

theorem codesL_covers (gs : List (Fin 4)) (g : Fin 4) (hg : g ∈ gs) (y : S1x128x2880.Idx) (hy : (∃ c, y ∈ (rB g c).set) ∨ y ∈ (rBt g).set) :
    ∃ p ∈ codesL i arg8 arg11 x0 x1 x2 x3 x4 x5 gs, y ∈ p.1.set := by
  induction gs with
  | nil => exact absurd hg List.not_mem_nil
  | cons g' gs ih =>
    have e : codesL i arg8 arg11 x0 x1 x2 x3 x4 x5 (g' :: gs) = strips.map (codePiece i arg8 arg11 x0 x1 x2 x3 x4 x5 g' _ _) ++ codesL i arg8 arg11 x0 x1 x2 x3 x4 x5 gs :=
      gCodes_eq i arg8 arg11 x0 x1 x2 x3 x4 x5 g' (resL i x0 x1 x2 x3 gs) (scrL i arg8 arg11 x0 x1 x2 x3 x4 x5 gs) _
    rw [e]
    rcases List.mem_cons.1 hg with rfl | h
    · rcases hy with ⟨c, hc⟩ | hc
      · exact ⟨_, List.mem_append_left _ (List.mem_map_of_mem (mem_strips_some c)), hc⟩
      · exact ⟨_, List.mem_append_left _ (List.mem_map_of_mem mem_strips_none), hc⟩
    · obtain ⟨p, hp, hm⟩ := ih h
      exact ⟨p, List.mem_append_right _ hp, hm⟩

theorem mem_groups (g : Fin 4) : g ∈ groups := by fin_cases g <;> simp [groups]

/-- Whatever the residual's block held, after the four groups it holds the residual; -/
theorem read_resL (v : Memref sig .tc .vmem S1x128x2880 .bf16) (f) : v.view.read (Elt Ideal) (v.view.writes (Elt Ideal) f (resL i x0 x1 x2 x3 groups)) = Gh i x0 x1 x2 x3 := by
  have hc : ∀ y, ∃ p ∈ resL i x0 x1 x2 x3 groups, y ∈ p.1.set := fun y => by
    obtain ⟨g, hg⟩ := block_cases y
    exact resL_covers i x0 x1 x2 x3 groups g (mem_groups g) y hg
  rw [View.read_writes_eq_canon v.view f _ hc]
  funext y
  have := View.canon_append_of_piecesOf (e := .bf16) (Gh i x0 x1 x2 x3) [] _ (res_pieces i x0 x1 x2 x3 groups) y (hc y)
  rwa [List.append_nil] at this

/-- whatever the codes' block held, it holds the codes. -/
theorem read_codesL (v : Memref sig .tc .vmem S1x128x2880 .fp8e4m3) (f) :
    v.view.read (Elt Ideal) (v.view.writes (Elt Ideal) f (codesL i arg8 arg11 x0 x1 x2 x3 x4 x5 groups)) = Gq i x0 x1 x2 x3 x4 x5 := by
  have hc : ∀ y, ∃ p ∈ codesL i arg8 arg11 x0 x1 x2 x3 x4 x5 groups, y ∈ p.1.set := fun y => by
    obtain ⟨g, hg⟩ := block_cases y
    exact codesL_covers i arg8 arg11 x0 x1 x2 x3 x4 x5 groups g (mem_groups g) y hg
  rw [View.read_writes_eq_canon v.view f _ hc]
  funext y
  have := View.canon_append_of_piecesOf (e := .fp8e4m3) (Gq i x0 x1 x2 x3 x4 x5) [] _ (code_pieces i arg8 arg11 x0 x1 x2 x3 x4 x5 groups) y (hc y)
  rwa [List.append_nil] at this

end Cert.KernelIdeal.Body

end
-- ==== Proof.Scales.lean ====
/- The row of scales of a block: each group's scales put at the group's columns. -/
module

public import proofs.«01_k».proof.Proof.Scratch

@[expose] public section

set_option maxRecDepth 16384

noncomputable section

namespace Cert.KernelIdeal.Body

open Idealize.ShloMosaic Idealize.ShloMosaic.TcCoe Idealize.ShloMosaic.ValueIdx
open Idealize.SL.Sem
open Cert.KernelIdeal.Gen

theorem lift_rows (n : Fin 128) (r : Fin 32) : reduces_S32x128_S128.lift (ix1 n) r = ix2 r n := by
  funext a; match a with | ⟨0, _⟩ => rfl | ⟨1, _⟩ => rfl

/-- Onto what the columns held, a group's scale at its row's column. -/
theorem scaleCols_apply (s : FVec Ideal S32x1 .f32) (g : Fin 4) (acc : FVec Ideal S32x128 .f32) (r : Fin 32) (n : Fin 128) :
    (scaleCols s g acc (ix2 r n) : EReal) = acc (ix2 r n) + if n = row g r then (s (ix2 r 0) : EReal) else 0 := by
  show (acc (ix2 r n) + (if (_ : BitVec 1) = 1#1 then broadcastTo S32x128 (shapeCast S32x1 s shapeCasts_S32x1_S32x1) broadcasts_S32x1_S32x128 (ix2 r n)
    else Ideal.ofBits .f32 0x00000000#32) : EReal) = _
  rw [Ideal.ofBits_zero_f32, bcast_col128, cast_self]
  have hm : cmpi .eq (iota .tc S32x128 32 [1] iota_S32x128_d1_w32)
      (addi (iota .tc S32x128 32 [0] iota_S32x128_d0_w32) (broadcast S32x128 (BitVec.ofNat 32 (32 * g.val)))) (ix2 r n) = BitVec.ofBool (decide (n = row g r)) := by
    show BitVec.ofBool (BitVec.ofNat 32 (0 * 128 + n.val) == BitVec.ofNat 32 (0 * 32 + r.val) + BitVec.ofNat 32 (32 * g.val)) = _
    rw [zero_mul, zero_add, zero_mul, zero_add, ← BitVec.ofNat_add]
    congr 1
    rw [Bool.eq_iff_iff, beq_iff_eq, decide_eq_true_iff, Fin.ext_iff]
    constructor
    · intro h
      have := congrArg BitVec.toNat h
      rw [BitVec.toNat_ofNat, BitVec.toNat_ofNat, Nat.mod_eq_of_lt (by omega), Nat.mod_eq_of_lt (by omega)] at this
      show n.val = 32 * g.val + r.val
      omega
    · intro h
      have h' : n.val = 32 * g.val + r.val := h
      rw [h', Nat.add_comm]
  rw [hm]
  by_cases h : n = row g r
  · rw [if_pos h, if_pos (by simp [h])]
  · rw [if_neg h, if_neg (by simp [h])]

variable (i : grid0.Coords)
  (arg8 : Memref sig .tc .vmem S1x128x2880 .bf16) (arg11 : Memref sig .tc .vmem S128x2880 .f32)
  (x0 : Vec Ideal S8x6x128 .f32) (x1 : Vec Ideal S8x1x128x2880 .fp8e4m3) (x2 : Vec Ideal S1x128x2880 .bf16)
  (x3 : Vec Ideal S1x2880 .f32) (x4 : Vec Ideal S1x2880 .f32) (x5 : Vec Ideal S1x2880 .f32)

/-- The columns after the groups `gs`: a sum over them. -/
theorem colsL_apply (gs : List (Fin 4)) (hn : gs.Nodup) (r : Fin 32) (n : Fin 128) :
    (colsL i arg8 arg11 x0 x1 x2 x3 x4 x5 gs (ix2 r n) : EReal)
      = ∑ g ∈ gs.toFinset, if n = row g r then Row.scale (Yv i x0 x1 x2 x3 x4 x5 n) else 0 := by
  induction gs with
  | nil => exact Ideal.ofBits_zero_f32
  | cons g gs ih =>
    have hn' := List.nodup_cons.1 hn
    refine (scaleCols_apply _ g _ r n).trans ?_
    rw [List.toFinset_cons, Finset.sum_insert (by simpa using hn'.1), add_comm]
    refine congrArg₂ (fun a b : EReal => a + b) ?_ (ih hn'.2)
    by_cases h : n = row g r
    · rw [if_pos h, if_pos h, scale_apply, gExpo_apply, ← h]; rfl
    · rw [if_neg h, if_neg h]

/-- The row of scales: at each token its row's. -/
theorem scalesRow_apply (n : Fin 128) :
    (scalesRow (colsL i arg8 arg11 x0 x1 x2 x3 x4 x5 groups) (ix2 0 n) : EReal) = Row.scale (Yv i x0 x1 x2 x3 x4 x5 n) := by
  refine (cast_1x128' _ n).trans ?_
  refine (Ideal.multiReduction_add_single _ _ _ _ _ _).trans ?_
  have hg : groups.Nodup := by simp [groups]
  have hu : groups.toFinset = Finset.univ := by ext g; simp [mem_groups]
  have e : ∀ r : Fin 32, (colsL i arg8 arg11 x0 x1 x2 x3 x4 x5 groups (reduces_S32x128_S128.lift (ix1 n) r) : EReal)
      = ∑ g : Fin 4, if n = row g r then Row.scale (Yv i x0 x1 x2 x3 x4 x5 n) else 0 := fun r => by
    rw [lift_rows]
    refine (colsL_apply i arg8 arg11 x0 x1 x2 x3 x4 x5 groups hg r n).trans ?_
    rw [hu]
  refine (Finset.sum_congr rfl fun r _ => e r).trans ?_
  have hr : n = row ⟨n.val / 32, by omega⟩ ⟨n.val % 32, by omega⟩ := Fin.ext (by show n.val = 32 * (n.val / 32) + n.val % 32; omega)
  show (∑ r : Fin 32, ∑ g : Fin 4, if n = row g r then Row.scale (Yv i x0 x1 x2 x3 x4 x5 n) else 0 : EReal) = _
  rw [Finset.sum_eq_single (⟨n.val % 32, by omega⟩ : Fin 32)]
  · rw [Finset.sum_eq_single (⟨n.val / 32, by omega⟩ : Fin 4)]
    · rw [if_pos hr]
    · intro g _ hne
      rw [if_neg]
      intro h
      have h' : n.val = 32 * g.val + n.val % 32 := congrArg Fin.val h
      exact hne (Fin.ext (by show g.val = n.val / 32; omega))
    · intro h; exact absurd (Finset.mem_univ _) h
  · intro r _ hne
    refine Finset.sum_eq_zero fun g _ => ?_
    rw [if_neg]
    intro h
    have h' : n.val = 32 * g.val + r.val := congrArg Fin.val h
    exact hne (Fin.ext (by show r.val = n.val % 32; omega))
  · intro h; exact absurd (Finset.mem_univ _) h

end Cert.KernelIdeal.Body

end
-- ==== Proof.Left.lean ====
/- What the body leaves at a grid point, at the extended reals: the residual's block and the codes' block element by element,
   and the row written into the scales' block. -/
module

public import proofs.«01_k».proof.Proof.Id
public import proofs.«01_k».proof.Proof.Scales
public import proofs.«01_k».proof.Proof.Obligation

@[expose] public section

set_option maxRecDepth 16384

noncomputable section

namespace Cert.KernelIdeal.Body

open Idealize.ShloMosaic Idealize.ShloMosaic.TcCoe Idealize.ShloMosaic.ValueIdx
open Idealize.SL.Sem
open Cert.KernelIdeal.Gen

variable (m : (ℓ : Loc nD τ sig) → Buf (Elt Ideal) ℓ) (c : Dev nD) (t : Fin cfg0.N)

theorem left_res : (left m c t).res = resL (grid0.coords t) (iblk m c 0 t) (iblk m c 1 t) (iblk m c 2 t) (iblk m c 3 t) groups := by
  unfold left
  rw [res_eq, (hs0_0 t).read_unread, (hs0_1 t).read_unread, (hs0_2 t).read_unread, (hs0_3 t).read_unread]

theorem left_codes : (left m c t).codes = codesL (grid0.coords t) (ms0_6 t) scM0_0 (iblk m c 0 t) (iblk m c 1 t) (iblk m c 2 t) (iblk m c 3 t) (iblk m c 4 t) (iblk m c 5 t) groups := by
  unfold left
  rw [codes_eq, (hs0_0 t).read_unread, (hs0_1 t).read_unread, (hs0_2 t).read_unread, (hs0_3 t).read_unread, (hs0_4 t).read_unread, (hs0_5 t).read_unread]

theorem left_scales : (left m c t).scales = scalesRow (colsL (grid0.coords t) (ms0_6 t) scM0_0 (iblk m c 0 t) (iblk m c 1 t) (iblk m c 2 t) (iblk m c 3 t) (iblk m c 4 t) (iblk m c 5 t) groups) := by
  unfold left
  rw [scales_eq, (hs0_0 t).read_unread, (hs0_1 t).read_unread, (hs0_2 t).read_unread, (hs0_3 t).read_unread, (hs0_4 t).read_unread, (hs0_5 t).read_unread]

/-- The residual's block holds the sums `Gh`, -/
theorem rel6_eq {Y X : Vec Ideal S1x128x2880 .bf16} (h : rel6 m c t Y X) :
    X = Gh (grid0.coords t) (iblk m c 0 t) (iblk m c 1 t) (iblk m c 2 t) (iblk m c 3 t) := by
  obtain ⟨f, rfl⟩ := h
  rw [left_res]
  exact read_resL _ _ _ _ _ (ms0_6 t) f

/-- the codes' block the codes `Gq`, -/
theorem rel7_eq {Y X : Vec Ideal S1x128x2880 .fp8e4m3} (h : rel7 m c t Y X) :
    X = Gq (grid0.coords t) (iblk m c 0 t) (iblk m c 1 t) (iblk m c 2 t) (iblk m c 3 t) (iblk m c 4 t) (iblk m c 5 t) := by
  obtain ⟨f, rfl⟩ := h
  rw [left_codes]
  exact read_codesL _ _ _ _ _ _ _ _ _ (ms0_7 t) f

/-- and row `b` of the scales' block, `b` the point's inner coordinate, holds the rows' scales, -/
theorem rel8_row {Y X : Vec Ideal S6x128 .f32} (h : rel8 m c t Y X) (n : Fin 128) :
    X (ix2 (brow (grid0.coords t)) n) = Row.scale (Yv (grid0.coords t) (iblk m c 0 t) (iblk m c 1 t) (iblk m c 2 t) (iblk m c 3 t) (iblk m c 4 t) (iblk m c 5 t) n) := by
  obtain ⟨f, -, rfl⟩ := h
  rw [left_scales]
  have e : (ix2 (brow (grid0.coords t)) n : S6x128.Idx)
      = (Rect.unit (s := S6x128) (k0_off9 (grid0.coords t)) S1x128.size (k0_off9_inb (grid0.coords t))).emb (ix2 (0 : Fin 1) n : S1x128.Idx) := by
    have h0 := off_b (grid0.coords t)
    funext a
    match a with
    | ⟨0, _⟩ => exact Fin.ext (by rw [ValueKit.rect_emb_unit_val]; exact h0.symm)
    | ⟨1, _⟩ => exact Fin.ext (by rw [ValueKit.rect_emb_unit_val]; exact (Nat.zero_add _).symm)
  rw [e]
  refine (View.read_writes_cons_emb _ _ _ _ _ _).trans ?_
  exact scalesRow_apply _ _ _ _ _ _ _ _ _ n

/-- the other rows being left as found. -/
theorem rel8_other {Y X : Vec Ideal S6x128 .f32} (h : rel8 m c t Y X) (b : Fin 6) (hb : b ≠ brow (grid0.coords t)) (n : Fin 128) :
    X (ix2 b n) = Y (ix2 b n) := by
  obtain ⟨f, rfl, rfl⟩ := h
  refine (View.read_writes_cons_miss _ _ _ _ _ fun hm => ?_).trans rfl
  have h0 := off_b (grid0.coords t)
  have h1 := (Rect.mem_set_unit (inb := k0_off9_inb (grid0.coords t)) |>.1 hm) 0
  have h2 : (Scalar.indexCast (BitVec.ofNat 32 ((grid0.coords t) 1).val) : Index).toNat ≤ b.val
      ∧ b.val < (Scalar.indexCast (BitVec.ofNat 32 ((grid0.coords t) 1).val) : Index).toNat + 1 := h1
  rw [h0] at h2
  exact hb (Fin.ext (by show b.val = ((grid0.coords t) 1).val; omega))

end Cert.KernelIdeal.Body

end
-- ==== Proof.Spec.lean ====
/- What the program computes, as functions of its six argument arrays at the extended reals: partial sums `a0` with scales `a1`
   over 8 shards, bias `a2`, residual input `a3`, the normalization's gain `a4` and bias `a5`; 6 rows of 2048 tokens of 2880. -/
module

public import proofs.«01_k».proof.Proof.Row

@[expose] public section

noncomputable section

namespace Cert.Spec

open Idealize.ShloMosaic Idealize.ShloMosaic.ValueIdx
open Cert.KernelIdeal

variable (a0 : Vec Ideal S8x6x2048x2880 .fp8e4m3) (a1 : Vec Ideal S8x6x2048 .f32) (a2 : Vec Ideal S2880 .f32)
  (a3 : Vec Ideal S6x2048x2880 .bf16) (a4 : Vec Ideal S2880 .f32) (a5 : Vec Ideal S2880 .f32)

/-- The new residual of token `n` of row `b`: the shards' sum, with the bias and the old residual; -/
def hid (b : Fin 6) (n : Fin 2048) (j : Fin 2880) : EReal :=
  ((∑ p : Fin 8, (a1 (ix3 p b n) * a0 (ix4 p b n j) : EReal)) + a2 (ix1 j)) + a3 (ix3 b n j)
/-- the token normalized; -/
def nrm (b : Fin 6) (n : Fin 2048) : Fin 2880 → EReal :=
  Row.nrm (hid a0 a1 a2 a3 b n) (fun j => a4 (ix1 j)) (fun j => a5 (ix1 j))

/-- the first result, the residuals; -/
def res : Vec Ideal S6x2048x2880 .bf16 := fun y => hid a0 a1 a2 a3 (y 0) (y 1) (y 2)
/-- the second, the codes; -/
def codes : Vec Ideal S6x2048x2880 .fp8e4m3 := fun y => Row.code (nrm a0 a1 a2 a3 a4 a5 (y 0) (y 1)) (y 2)
/-- and the third, the scales. -/
def scales : Vec Ideal S6x2048 .f32 := fun y => Row.scale (nrm a0 a1 a2 a3 a4 a5 (y 0) (y 1))

end Cert.Spec

end
-- ==== Proof.Final.lean ====
/- The result arrays of the idealized kernel: the blocks that a grid point is given, as parts of the arguments, what every point
   leaves of them, and the arrays that the blocks make up. -/
module

public import proofs.«01_k».proof.Proof.Left
public import proofs.«01_k».proof.Proof.Spec
public import Idealize.ShloMosaic.Lib.Pipeline.ValueKit.Geometry

@[expose] public section

set_option maxRecDepth 16384

noncomputable section

namespace Cert.KernelIdeal.Body

open Idealize.ShloMosaic Idealize.ShloMosaic.TcCoe Idealize.ShloMosaic.ValueIdx
open Idealize.SL.Sem
open Idealize.ShloMosaic.Pipeline (Dat RDat Cfg Window)
open Cert.KernelIdeal.Gen

/-! ## Where each window's block lies -/

theorem index0 : ∀ t : Fin cfg0.N, win0_0.index t = ![0, 0, (grid0.coords t 0).val] := (by decide +kernel : ∀ t : Fin grid0.N, _)
theorem index1 : ∀ t : Fin cfg0.N, win0_1.index t = ![0, (grid0.coords t 1).val, (grid0.coords t 0).val, 0] := (by decide +kernel : ∀ t : Fin grid0.N, _)
theorem index2 : ∀ t : Fin cfg0.N, win0_2.index t = ![(grid0.coords t 1).val, (grid0.coords t 0).val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![(grid0.coords t 1).val, (grid0.coords t 0).val, 0] := (by decide +kernel : ∀ t : Fin grid0.N, _)
theorem index7 : ∀ t : Fin cfg0.N, win0_7.index t = ![(grid0.coords t 1).val, (grid0.coords t 0).val, 0] := (by decide +kernel : ∀ t : Fin grid0.N, _)
theorem index8 : ∀ t : Fin cfg0.N, win0_8.index t = ![0, (grid0.coords t 0).val] := (by decide +kernel : ∀ t : Fin grid0.N, _)

/-- The `n`-th token of the block at point `t`. -/
def tok (t : Fin cfg0.N) (n : Fin 128) : Fin 2048 := ⟨(grid0.coords t 0).val * 128 + n.val, by have h : (grid0.coords t 0).val < 16 := (grid0.coords t 0).isLt; omega⟩

variable (m : (ℓ : Loc nD τ sig) → Buf (Elt Ideal) ℓ) (c : Dev nD)

/-! ## The arguments reshaped before the launch -/

theorem reshape_row (x : Vec Ideal S2880 .f32) (j : Fin 2880) : shapeCast S1x2880 x shapeCasts_S2880_S1x2880 (ix2 0 j) = x (ix1 j) := by
  exact shapeCast_apply _ _ _ _ (by rw [Shape.rowMajor_val_one, Shape.rowMajor_val_two]; show j.val = 0 * 2880 + j.val; omega)

theorem V_main_v0 : V m c main_v0 = shapeCast S1x2880 (m ((c : Thread nD τ).loc main_arg2)) shapeCasts_S2880_S1x2880 := by
  show StableHlo.after hostOps0 (fun b => m (c, b)) (Proc.devRef .tc main_v0) = _
  rw [hostOps0]
  after_results
  rfl
theorem V_main_v1 : V m c main_v1 = shapeCast S1x2880 (m ((c : Thread nD τ).loc main_arg4)) shapeCasts_S2880_S1x2880 := by
  show StableHlo.after hostOps0 (fun b => m (c, b)) (Proc.devRef .tc main_v1) = _
  rw [hostOps0]
  after_results
  rfl
theorem V_main_v2 : V m c main_v2 = shapeCast S1x2880 (m ((c : Thread nD τ).loc main_arg5)) shapeCasts_S2880_S1x2880 := by
  show StableHlo.after hostOps0 (fun b => m (c, b)) (Proc.devRef .tc main_v2) = _
  rw [hostOps0]
  after_results
  rfl

/-! ## The input blocks -/

theorem blk0 (t : Fin cfg0.N) (p : Fin 8) (b : Fin 6) (n : Fin 128) : iblk m c 0 t (ix3 p b n) = m ((c : Thread nD τ).loc main_arg1) (ix3 p b (tok t n)) := by
  blk_simp [iblk]
  refine (congrFun (V_main_arg1 m c) _).trans (congrArg _ ?_)
  blk_ext [index0, tok]
theorem blk1 (t : Fin cfg0.N) (p : Fin 8) (n : Fin 128) (j : Fin 2880) :
    iblk m c 1 t (ix4 p 0 n j) = m ((c : Thread nD τ).loc main_arg0) (ix4 p (brow (grid0.coords t)) (tok t n) j) := by
  blk_simp [iblk]
  refine (congrFun (V_main_arg0 m c) _).trans (congrArg _ ?_)
  blk_ext [index1, tok, brow]
theorem blk2 (t : Fin cfg0.N) (n : Fin 128) (j : Fin 2880) :
    iblk m c 2 t (ix3 0 n j) = m ((c : Thread nD τ).loc main_arg3) (ix3 (brow (grid0.coords t)) (tok t n) j) := by
  blk_simp [iblk]
  refine (congrFun (V_main_arg3 m c) _).trans (congrArg _ ?_)
  blk_ext [index2, tok, brow]
theorem blk3 (t : Fin cfg0.N) (j : Fin 2880) : iblk m c 3 t (ix2 0 j) = m ((c : Thread nD τ).loc main_arg2) (ix1 j) := by
  blk_simp [iblk]
  refine (congrFun (V_main_v0 m c) _).trans (Eq.trans (congrArg _ ?_) (reshape_row _ j))
  blk_ext [index3]
theorem blk4 (t : Fin cfg0.N) (j : Fin 2880) : iblk m c 4 t (ix2 0 j) = m ((c : Thread nD τ).loc main_arg4) (ix1 j) := by
  blk_simp [iblk]
  refine (congrFun (V_main_v1 m c) _).trans (Eq.trans (congrArg _ ?_) (reshape_row _ j))
  blk_ext [index4]
theorem blk5 (t : Fin cfg0.N) (j : Fin 2880) : iblk m c 5 t (ix2 0 j) = m ((c : Thread nD τ).loc main_arg5) (ix1 j) := by
  blk_simp [iblk]
  refine (congrFun (V_main_v2 m c) _).trans (Eq.trans (congrArg _ ?_) (reshape_row _ j))
  blk_ext [index5]

/-- The sums of the point's blocks are the new residuals of its tokens, -/
theorem hid_eq (t : Fin cfg0.N) (n : Fin 128) :
    Hv (grid0.coords t) (iblk m c 0 t) (iblk m c 1 t) (iblk m c 2 t) (iblk m c 3 t) n
      = Spec.hid (m ((c : Thread nD τ).loc main_arg0)) (m ((c : Thread nD τ).loc main_arg1)) (m ((c : Thread nD τ).loc main_arg2)) (m ((c : Thread nD τ).loc main_arg3)) (brow (grid0.coords t)) (tok t n) := by
  funext j
  unfold Hv Spec.hid
  rw [blk2, blk3]
  refine congrArg₂ (fun a b : EReal => a + b) (congrArg₂ (fun a b : EReal => a + b) (Finset.sum_congr rfl fun p _ => ?_) rfl) rfl
  rw [blk0, blk1]

/-- and the rows normalized are its tokens normalized. -/
theorem nrm_eq (t : Fin cfg0.N) (n : Fin 128) :
    Yv (grid0.coords t) (iblk m c 0 t) (iblk m c 1 t) (iblk m c 2 t) (iblk m c 3 t) (iblk m c 4 t) (iblk m c 5 t) n
      = Spec.nrm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (brow (grid0.coords t)) (tok t n) := by
  unfold Yv Spec.nrm
  rw [hid_eq]
  exact congrArg₂ (Row.nrm _) (funext fun j => blk4 m c t j) (funext fun j => blk5 m c t j)

/-! ## What a point may leave in each result's block -/

theorem leaves6 (t : Fin cfg0.N) {X : Vec Ideal S1x128x2880 .bf16} (h : (rd m c).Leaves 6 t X) : ∃ Y, rel6 m c t Y X := by
  obtain ⟨Y, -, h⟩ := h
  exact ⟨Y, h⟩
theorem leaves7 (t : Fin cfg0.N) {X : Vec Ideal S1x128x2880 .fp8e4m3} (h : (rd m c).Leaves 7 t X) : ∃ Y, rel7 m c t Y X := by
  obtain ⟨Y, -, h⟩ := h
  exact ⟨Y, h⟩
theorem leaves8 (t : Fin cfg0.N) {X : Vec Ideal S6x128 .f32} (h : (rd m c).Leaves 8 t X) : ∃ Y : Vec Ideal S6x128 .f32, (rd m c).Finds 8 t Y ∧ rel8 m c t Y X := by
  obtain ⟨Y, hf, h⟩ := h
  exact ⟨Y, hf, h⟩

theorem coords_outer : ∀ t : Fin cfg0.N, (grid0.coords t 0).val = t.val / 6 := (by decide +kernel : ∀ t : Fin grid0.N, _)
theorem coords_inner : ∀ t : Fin cfg0.N, (grid0.coords t 1).val = t.val % 6 := (by decide +kernel : ∀ t : Fin grid0.N, _)

/-- After the point with inner coordinate `k` the rows of the scales' block up to the `k`-th hold the tokens' scales. -/
theorem rows8 (n : Fin 128) : ∀ (k : Nat) (t : Fin cfg0.N) (X : Vec Ideal S6x128 .f32), t.val % 6 = k → (rd m c).Leaves 8 t X →
    ∀ b : Fin 6, b.val ≤ k → X (ix2 b n) = Spec.scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 b (tok t n)) := by
  intro k
  induction k with
  | zero =>
    intro t X ht hX b hb
    obtain ⟨Y, -, hr⟩ := leaves8 m c t hX
    have hbr : b = brow (grid0.coords t) := Fin.ext (by have := coords_inner t; show b.val = (grid0.coords t 1).val; omega)
    rw [hbr, rel8_row m c t hr n, nrm_eq]; rfl
  | succ k ih =>
    intro t X ht hX b hb
    obtain ⟨Y, hf, hr⟩ := leaves8 m c t hX
    by_cases hbr : b = brow (grid0.coords t)
    · rw [hbr, rel8_row m c t hr n, nrm_eq]; rfl
    · rw [rel8_other m c t hr b hbr n]
      have hne : t.val ≠ 0 := fun h => by rw [h] at ht; omega
      have hp : t.val - 1 < cfg0.N := Nat.lt_of_le_of_lt (Nat.sub_le _ _) t.isLt
      have hL : (rd m c).Leaves 8 ⟨t.val - 1, hp⟩ Y := by
        refine (((rd m c).finds_of_pos (w := 8) rfl hne Y).1 hf).resolve_left fun hfl => ?_
        have h5 := (flush0_8 ⟨t.val - 1, hp⟩).1 hfl
        have : t.val < 96 := t.isLt
        simp only at h5; omega
      have hb' : b.val ≤ k := by
        have h1 : b.val ≠ (grid0.coords t 1).val := fun h => hbr (Fin.ext h)
        have := coords_inner t; omega
      have hr' := ih ⟨t.val - 1, hp⟩ Y (by show (t.val - 1) % 6 = k; omega) hL b hb'
      rw [hr']
      refine congrArg _ (congrArg (ix2 b) (Fin.ext ?_))
      show (grid0.coords _ 0).val * 128 + n.val = (grid0.coords t 0).val * 128 + n.val
      rw [coords_outer, coords_outer]
      show (t.val - 1) / 6 * 128 + n.val = t.val / 6 * 128 + n.val
      have : (t.val - 1) / 6 = t.val / 6 := by omega
      rw [this]

/-! ## The arrays -/

variable {m c} in
/-- The result arrays after the launch are the specified ones of the arguments. -/
theorem results {r : PUnit × MemSt nD τ sig (Elt Ideal)} (h : Pipeline.RDat.FramePost (cfgs 0) (fun c => rd m c) (V m) r) (c : Dev nD) :
    r.2.mem ((c.tc : Thread nD τ).loc main_v3_0) = Spec.res (m ((c : Thread nD τ).loc main_arg0)) (m ((c : Thread nD τ).loc main_arg1)) (m ((c : Thread nD τ).loc main_arg2)) (m ((c : Thread nD τ).loc main_arg3))
    ∧ r.2.mem ((c.tc : Thread nD τ).loc main_v3_1) = Spec.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c.tc : Thread nD τ).loc main_v3_2) = Spec.scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨after, hL, hA⟩ := Pipeline.RDat.FramePost.exists_exact h c
  refine ⟨(hA 6).trans ?_, (hA 7).trans ?_, (hA 8).trans ?_⟩
  · refine Dat.arrAt_eq_of_covers _ 6 _ (by decide +kernel) fun t hf y => ?_
    obtain ⟨Y, hr⟩ := leaves6 m c t (hL 6 t hf)
    have he := rel6_eq m c t hr
    blk_simp
    have hy : win0_6.xinj (grid0.coords t) y = y := rfl
    refine (congrFun he y).trans ?_
    have hemb : ((win0_6.blk t).view.emb y : S6x2048x2880.Idx) = ix3 (brow (grid0.coords t)) (tok t (y 1)) (y 2) := by
      blk_ext [index6, tok, brow]
    rw [hemb]
    exact congrFun (hid_eq m c t (y 1)) (y 2)
  · refine Dat.arrAt_eq_of_covers _ 7 _ (by decide +kernel) fun t hf y => ?_
    obtain ⟨Y, hr⟩ := leaves7 m c t (hL 7 t hf)
    have he := rel7_eq m c t hr
    blk_simp
    refine (congrFun he y).trans ?_
    have hemb : ((win0_7.blk t).view.emb y : S6x2048x2880.Idx) = ix3 (brow (grid0.coords t)) (tok t (y 1)) (y 2) := by
      blk_ext [index7, tok, brow]
    rw [hemb]
    exact congrArg (fun f => Row.code f (y 2)) (nrm_eq m c t (y 1))
  · refine Dat.arrAt_eq_of_covers _ 8 _ (by decide +kernel) fun t hf y => ?_
    have he := rows8 m c (y 1) 5 t _ ((flush0_8 t).1 hf) (hL 8 t hf) (y 0) (by have : (y 0).val < 6 := (y 0).isLt; omega)
    blk_simp
    have hemb : ((win0_8.blk t).view.emb y : S6x2048.Idx) = ix2 (y 0) (tok t (y 1)) := by
      blk_ext [index8, tok]
    rw [hemb]
    exact (congrArg (after 8 t) (eq_ix2 y)).trans he

end Cert.KernelIdeal.Body

end
-- ==== Proof.RefRow.lean ====
/- One token's row of 2880, at the extended reals: the exponent, the codes and the scale as the reference states them, with a
   logarithm and powers of two. -/
module

public import proofs.«01_k».proof.Proof.Row

@[expose] public section

noncomputable section

namespace Cert.Row

open Idealize.ShloMosaic

/-- The exponent of a positive `u` from the logarithm, and 0 of a `u` below the smallest normal number. -/
def refExpo (u : EReal) : EReal :=
  if u < Ideal.ofBits .f32 0x00800000#32 then Ideal.ofBits .f32 0x00000000#32
  else Ideal.liftRound Int.floor (Ideal.div (Ideal.log u) (Ideal.log (Ideal.ofBits .f32 0x40000000#32))) + Ideal.ofBits .f32 0x3F800000#32
/-- A row's exponent, -/
def refEx (y : Fin 2880 → EReal) : EReal := refExpo (amax y * Ideal.ofBits .f32 0x3B124925#32)
/-- its scale, -/
def refScale (y : Fin 2880 → EReal) : EReal := Ideal.exp2 (refEx y)
/-- and its codes. -/
def refCode (y : Fin 2880 → EReal) (j : Fin 2880) : EReal :=
  min (Ideal.ofBits .f32 0x43E00000#32) (max (Ideal.ofBits .f32 0xC3E00000#32) (y j * Ideal.exp2 (Ideal.ofBits .f32 0x00000000#32 - refEx y)))

end Cert.Row

end
-- ==== Proof.Ref.lean ====
/- The reference's values at an index: its layout operations and row sums, then its payloads as the specification's functions. -/
module

public import proofs.«01_k».proof.Proof.Gen.ReferenceIdeal.Frame
public import proofs.«01_k».proof.Proof.RefRow
public import proofs.«01_k».proof.Proof.Spec
public import Idealize.ShloMosaic.Lib.ValueIdx
public import Idealize.ShloMosaic.PureOps.Ideal.Laws

@[expose] public section

set_option maxRecDepth 16384

noncomputable section

namespace Cert.ReferenceIdeal.Body

open Idealize.ShloMosaic Idealize.ShloMosaic.TcCoe Idealize.ShloMosaic.ValueIdx
open Idealize.SL.Sem
open Cert.ReferenceIdeal.Gen
open Cert.KernelIdeal.Body (kW kEps ofBits_neg_inf)

/-! ## The layout operations -/

variable {α : Type}

theorem bcast_col (x : S6x2048x1.Idx → α) (b : Fin 6) (n : Fin 2048) (j : Fin 2880) :
    broadcastTo S6x2048x2880 x broadcasts_S6x2048x1_S6x2048x2880 (ix3 b n j) = x (ix3 b n 0) :=
  broadcastTo_apply _ _ _ _ (by intro a; fin_cases a <;> simp [S6x2048x1])
theorem bcast_vec (x : S1x1x2880.Idx → α) (b : Fin 6) (n : Fin 2048) (j : Fin 2880) :
    broadcastTo S6x2048x2880 x broadcasts_S1x1x2880_S6x2048x2880 (ix3 b n j) = x (ix3 0 0 j) :=
  broadcastTo_apply _ _ _ _ (by intro a; fin_cases a <;> simp [S1x1x2880])
theorem bcast_shard (x : S8x6x2048x1.Idx → α) (p : Fin 8) (b : Fin 6) (n : Fin 2048) (j : Fin 2880) :
    broadcastTo S8x6x2048x2880 x broadcasts_S8x6x2048x1_S8x6x2048x2880 (ix4 p b n j) = x (ix4 p b n 0) :=
  broadcastTo_apply _ _ _ _ (by intro a; fin_cases a <;> simp [S8x6x2048x1])
theorem cast_col (x : S6x2048.Idx → α) (b : Fin 6) (n : Fin 2048) : shapeCast S6x2048x1 x shapeCasts_S6x2048_S6x2048x1 (ix3 b n 0) = x (ix2 b n) :=
  shapeCast_apply _ _ _ _ (by rw [Shape.rowMajor_val_two, Shape.rowMajor_val_three]; show b.val * 2048 + n.val = (b.val * 2048 + n.val) * 1 + 0; omega)
theorem cast_back (x : S6x2048x1.Idx → α) (b : Fin 6) (n : Fin 2048) : shapeCast S6x2048 x shapeCasts_S6x2048x1_S6x2048 (ix2 b n) = x (ix3 b n 0) :=
  shapeCast_apply _ _ _ _ (by rw [Shape.rowMajor_val_two, Shape.rowMajor_val_three]; show (b.val * 2048 + n.val) * 1 + 0 = b.val * 2048 + n.val; omega)
theorem cast_vec (x : S2880.Idx → α) (j : Fin 2880) : shapeCast S1x1x2880 x shapeCasts_S2880_S1x1x2880 (ix3 0 0 j) = x (ix1 j) :=
  shapeCast_apply _ _ _ _ (by rw [Shape.rowMajor_val_one, Shape.rowMajor_val_three]; show j.val = (0 * 1 + 0) * 2880 + j.val; omega)
theorem cast_shard (x : S8x6x2048.Idx → α) (p : Fin 8) (b : Fin 6) (n : Fin 2048) :
    shapeCast S8x6x2048x1 x shapeCasts_S8x6x2048_S8x6x2048x1 (ix4 p b n 0) = x (ix3 p b n) :=
  shapeCast_apply _ _ _ _ (by
    rw [Shape.rowMajor_val_three, Shape.rowMajor_val_four]
    show (p.val * 6 + b.val) * 2048 + n.val = ((p.val * 6 + b.val) * 2048 + n.val) * 1 + 0; omega)

/-! ## The sums and the maximum -/

theorem lift_shard (b : Fin 6) (n : Fin 2048) (j : Fin 2880) (p : Fin 8) : reduces_S8x6x2048x2880_S6x2048x2880.lift (ix3 b n j) p = ix4 p b n j := by
  funext a; match a with | ⟨0, _⟩ => rfl | ⟨1, _⟩ => rfl | ⟨2, _⟩ => rfl | ⟨3, _⟩ => rfl
theorem lift_row (b : Fin 6) (n : Fin 2048) (j : Fin 2880) : reduces_S6x2048x2880_S6x2048.lift (ix2 b n) j = ix3 b n j := by
  funext a; match a with | ⟨0, _⟩ => rfl | ⟨1, _⟩ => rfl | ⟨2, _⟩ => rfl

theorem sum_shards (x : FVec Ideal S8x6x2048x2880 .f32) (b : Fin 6) (n : Fin 2048) (j : Fin 2880) :
    multiReduction .add [0] S6x2048x2880 x 0x00000000#32 reduces_S8x6x2048x2880_S6x2048x2880 (.inl rfl) rfl (ix3 b n j) = ∑ p : Fin 8, (x (ix4 p b n j) : EReal) :=
  (Ideal.multiReduction_add_single _ _ _ _ _ _).trans (Finset.sum_congr rfl fun p _ => congrArg x (lift_shard b n j p))
theorem sum_row (x : FVec Ideal S6x2048x2880 .f32) (b : Fin 6) (n : Fin 2048) :
    multiReduction .add [2] S6x2048 x 0x00000000#32 reduces_S6x2048x2880_S6x2048 (.inl rfl) rfl (ix2 b n) = ∑ j : Fin 2880, (x (ix3 b n j) : EReal) :=
  (Ideal.multiReduction_add_single _ _ _ _ _ _).trans (Finset.sum_congr rfl fun j _ => congrArg x (lift_row b n j))
theorem max_row (x : FVec Ideal S6x2048x2880 .f32) (b : Fin 6) (n : Fin 2048) :
    multiReduction .maximumf [2] S6x2048 x 0xFF800000#32 reduces_S6x2048x2880_S6x2048 (.inl rfl) rfl (ix2 b n)
      = (Finset.univ : Finset (Fin 2880)).fold max (⊥ : EReal) fun j => x (ix3 b n j) := by
  refine (Ideal.multiReduction_maximumf_single _ _ _ _ _ _).trans ?_
  have h : (x ∘ reduces_S6x2048x2880_S6x2048.lift (ix2 b n) : Fin 2880 → EReal) = fun j => x (ix3 b n j) := funext fun j => congrArg x (lift_row b n j)
  exact (congrArg₂ (fun (z : EReal) (f : Fin 2880 → EReal) => (Finset.univ : Finset (Fin 2880)).fold max z f) ofBits_neg_inf h)

/-! ## The row statistics -/

theorem ofBits_2880 : Ideal.ofBits .f32 0x45340000#32 = ((2880 : ℝ) : EReal) := by
  simp [Ideal.ofBits, Ideal.ieee, -EReal.coe_mul]; norm_num

/-- Dividing by the width is multiplying by its reciprocal. -/
theorem div_2880 (x : EReal) : Ideal.div x (Ideal.ofBits .f32 0x45340000#32) = x * kW := by
  rw [ofBits_2880]
  unfold Ideal.div
  rw [if_neg (by norm_num), ← EReal.coe_inv, show ((2880 : ℝ)⁻¹) = 1 / 2880 by norm_num]

/-- The mean along the rows, -/
def rowMean (x : FVec Ideal S6x2048x2880 .f32) : FVec Ideal S6x2048x1 .f32 :=
  divf (shapeCast S6x2048x1 (multiReduction .add [2] S6x2048 x 0x00000000#32 reduces_S6x2048x2880_S6x2048 (.inl rfl) rfl) shapeCasts_S6x2048_S6x2048x1)
    (broadcast S6x2048x1 (Scalar.ofBits .f32 0x45340000#32))
/-- the deviations from it, -/
def rowDev (x : FVec Ideal S6x2048x2880 .f32) : FVec Ideal S6x2048x2880 .f32 :=
  subf x (broadcastTo S6x2048x2880 (rowMean x) broadcasts_S6x2048x1_S6x2048x2880)
/-- and the reciprocal standard deviation from those. -/
def rowRs (d : FVec Ideal S6x2048x2880 .f32) : FVec Ideal S6x2048x1 .f32 :=
  rsqrt (addf (rowMean (mulf d d)) (broadcast S6x2048x1 (Scalar.ofBits .f32 0x358637BD#32)))

theorem rowMean_apply (x : FVec Ideal S6x2048x2880 .f32) (b : Fin 6) (n : Fin 2048) : rowMean x (ix3 b n 0) = (∑ j, (x (ix3 b n j) : EReal)) * kW := by
  show Ideal.div (shapeCast S6x2048x1 _ shapeCasts_S6x2048_S6x2048x1 (ix3 b n 0)) (Ideal.ofBits .f32 0x45340000#32) = _
  rw [div_2880, cast_col, sum_row]
theorem rowDev_apply (x : FVec Ideal S6x2048x2880 .f32) (b : Fin 6) (n : Fin 2048) (j : Fin 2880) :
    rowDev x (ix3 b n j) = Row.dev (fun k => x (ix3 b n k)) j := by
  show (x (ix3 b n j) - broadcastTo S6x2048x2880 (rowMean x) broadcasts_S6x2048x1_S6x2048x2880 (ix3 b n j) : EReal) = _
  rw [bcast_col, rowMean_apply]; rfl
theorem rowRs_apply (x : FVec Ideal S6x2048x2880 .f32) (b : Fin 6) (n : Fin 2048) : rowRs (rowDev x) (ix3 b n 0) = Row.rs (fun k => x (ix3 b n k)) := by
  show Ideal.rsqrt (rowMean (mulf (rowDev x) (rowDev x)) (ix3 b n 0) + kEps : EReal) = _
  rw [rowMean_apply]
  refine congrArg (fun s : EReal => Ideal.rsqrt (s * kW + kEps)) (Finset.sum_congr rfl fun j _ => ?_)
  show (rowDev x (ix3 b n j) * rowDev x (ix3 b n j) : EReal) = _
  rw [rowDev_apply]

/-! ## The exponent, the codes and the scale -/

/-- The rows' largest absolute values over 448, -/
def rowU (a : FVec Ideal S6x2048x2880 .f32) : FVec Ideal S6x2048x1 .f32 :=
  mulf (shapeCast S6x2048x1 (multiReduction .maximumf [2] S6x2048 a 0xFF800000#32 reduces_S6x2048x2880_S6x2048 (.inl rfl) rfl) shapeCasts_S6x2048_S6x2048x1)
    (broadcast S6x2048x1 (Scalar.ofBits .f32 0x3B124925#32))
/-- the exponents, -/
def rowEx (u : FVec Ideal S6x2048x1 .f32) : FVec Ideal S6x2048x1 .f32 :=
  select (cmpf .olt u (broadcast S6x2048x1 (Scalar.ofBits .f32 0x00800000#32))) (broadcast S6x2048x1 (Scalar.ofBits .f32 0x00000000#32))
    (addf (floor (divf (log u) (log (broadcast S6x2048x1 (Scalar.ofBits .f32 0x40000000#32))))) (broadcast S6x2048x1 (Scalar.ofBits .f32 0x3F800000#32)))
/-- the reciprocal scales, -/
def rowInv (e : FVec Ideal S6x2048x1 .f32) : FVec Ideal S6x2048x1 .f32 := exp2 (subf (broadcast S6x2048x1 (Scalar.ofBits .f32 0x00000000#32)) e)
/-- the codes, -/
def rowCodes (x : FVec Ideal S6x2048x2880 .f32) (s : FVec Ideal S6x2048x1 .f32) : FVec Ideal S6x2048x2880 .fp8e4m3 :=
  truncf .fp8e4m3 (minimumf (broadcast S6x2048x2880 (Scalar.ofBits .f32 0x43E00000#32)) (maximumf (broadcast S6x2048x2880 (Scalar.ofBits .f32 0xC3E00000#32))
    (mulf x (broadcastTo S6x2048x2880 s broadcasts_S6x2048x1_S6x2048x2880)))) bitsLt_fp8e4m3_f32
/-- and the scales. -/
def rowScales (e : FVec Ideal S6x2048x1 .f32) : FVec Ideal S6x2048 .f32 := shapeCast S6x2048 (exp2 e) shapeCasts_S6x2048x1_S6x2048

theorem rowU_apply (x : FVec Ideal S6x2048x2880 .f32) (b : Fin 6) (n : Fin 2048) :
    rowU (absf x) (ix3 b n 0) = ((Row.amax fun j => x (ix3 b n j)) * Ideal.ofBits .f32 0x3B124925#32 : EReal) := by
  unfold rowU
  rw [mulf_apply, cast_col, max_row]; rfl

theorem select_lt (u v p q : EReal) : (if (FloatOps.cmpf (F := Ideal) (φ := .f32) .olt u v : BitVec 1) = 1 then p else q) = if u < v then p else q := by
  show (if BitVec.ofBool (decide (u < v)) = 1#1 then p else q) = _
  by_cases h : u < v
  · rw [if_pos h, if_pos (by rw [decide_eq_true h]; rfl)]
  · rw [if_neg h, if_neg (by rw [decide_eq_false h]; decide)]

theorem rowEx_apply (u : FVec Ideal S6x2048x1 .f32) (i : S6x2048x1.Idx) : rowEx u i = Row.refExpo (u i) := select_lt _ _ _ _

theorem rowInv_apply (e : FVec Ideal S6x2048x1 .f32) (i : S6x2048x1.Idx) : rowInv e i = Ideal.exp2 (Ideal.ofBits .f32 0x00000000#32 - e i) := rfl

theorem rowCodes_apply (x : FVec Ideal S6x2048x2880 .f32) (s : FVec Ideal S6x2048x1 .f32) (b : Fin 6) (n : Fin 2048) (j : Fin 2880) :
    rowCodes x s (ix3 b n j) = min (Ideal.ofBits .f32 0x43E00000#32) (max (Ideal.ofBits .f32 0xC3E00000#32) (x (ix3 b n j) * s (ix3 b n 0) : EReal)) := by
  unfold rowCodes
  rw [truncf_apply, minimumf_apply, maximumf_apply, mulf_apply, bcast_col]; rfl

theorem rowScales_apply (e : FVec Ideal S6x2048x1 .f32) (b : Fin 6) (n : Fin 2048) : rowScales e (ix2 b n) = Ideal.exp2 (e (ix3 b n 0)) := by
  unfold rowScales
  rw [cast_back]; rfl

/-! ## The payloads -/

variable (v0 : Vec Ideal S8x6x2048x2880 .fp8e4m3) (v1 : Vec Ideal S8x6x2048 .f32) (v2 : Vec Ideal S2880 .f32)
  (v3 : Vec Ideal S6x2048x2880 .bf16) (v4 : Vec Ideal S2880 .f32) (v5 : Vec Ideal S2880 .f32)

/-- The shards' sum. -/
def shards : FVec Ideal S6x2048x2880 .f32 :=
  multiReduction .add [0] S6x2048x2880 (mulf (extf .f32 v0 bitsLt_fp8e4m3_f32)
    (broadcastTo S8x6x2048x2880 (shapeCast S8x6x2048x1 v1 shapeCasts_S8x6x2048_S8x6x2048x1) broadcasts_S8x6x2048x1_S8x6x2048x2880)) 0x00000000#32
    reduces_S8x6x2048x2880_S6x2048x2880 (.inl rfl) rfl
/-- A vector along every row. -/
def along (v : Vec Ideal S2880 .f32) : FVec Ideal S6x2048x2880 .f32 :=
  broadcastTo S6x2048x2880 (shapeCast S1x1x2880 v shapeCasts_S2880_S1x1x2880) broadcasts_S1x1x2880_S6x2048x2880

theorem shards_apply (b : Fin 6) (n : Fin 2048) (j : Fin 2880) : shards v0 v1 (ix3 b n j) = ∑ p : Fin 8, (v1 (ix3 p b n) * v0 (ix4 p b n j) : EReal) := by
  unfold shards
  rw [sum_shards]
  refine Finset.sum_congr rfl fun p _ => ?_
  rw [mulf_apply, bcast_shard, cast_shard, extf_apply]
  exact EReal.mul_comm _ _
theorem along_apply (v : Vec Ideal S2880 .f32) (b : Fin 6) (n : Fin 2048) (j : Fin 2880) : along v (ix3 b n j) = v (ix1 j) := by
  unfold along
  rw [bcast_vec, cast_vec]

theorem pay4_eq : k0_pay4 v0 v1 v2 v3 = truncf .bf16 (addf (addf (shards v0 v1) (along v2)) (extf .f32 v3 bitsLt_bf16_f32)) bitsLt_bf16_f32 := rfl
theorem pay4_apply (b : Fin 6) (n : Fin 2048) (j : Fin 2880) : k0_pay4 v0 v1 v2 v3 (ix3 b n j) = Spec.hid v0 v1 v2 v3 b n j := by
  rw [pay4_eq, truncf_apply, addf_apply, addf_apply, extf_apply, shards_apply, along_apply]; rfl

theorem pay5_eq : k0_pay5 v0 v1 v2 v3 v4 v5
    = addf (mulf (mulf (rowDev (extf .f32 (k0_pay4 v0 v1 v2 v3) bitsLt_bf16_f32))
        (broadcastTo S6x2048x2880 (rowRs (rowDev (extf .f32 (k0_pay4 v0 v1 v2 v3) bitsLt_bf16_f32))) broadcasts_S6x2048x1_S6x2048x2880)) (along v4)) (along v5) := rfl
theorem pay5_apply (b : Fin 6) (n : Fin 2048) (j : Fin 2880) : k0_pay5 v0 v1 v2 v3 v4 v5 (ix3 b n j) = Spec.nrm v0 v1 v2 v3 v4 v5 b n j := by
  have hx : (fun k => (extf .f32 (k0_pay4 v0 v1 v2 v3) bitsLt_bf16_f32 : FVec Ideal S6x2048x2880 .f32) (ix3 b n k)) = Spec.hid v0 v1 v2 v3 b n :=
    funext fun k => pay4_apply v0 v1 v2 v3 b n k
  rw [pay5_eq, addf_apply, mulf_apply, mulf_apply, along_apply, along_apply, bcast_col, rowDev_apply, rowRs_apply, hx]
  rfl

theorem pay6_eq : k0_pay6 v0 v1 v2 v3 v4 v5 = absf (k0_pay5 v0 v1 v2 v3 v4 v5) := rfl
theorem pay2_eq (x a : FVec Ideal S6x2048x2880 .f32) : k0_pay2 x a = rowCodes x (rowInv (rowEx (rowU a))) := rfl
theorem pay3_eq (a : FVec Ideal S6x2048x2880 .f32) : k0_pay3 a = rowScales (rowEx (rowU a)) := rfl

theorem pay2_apply (x : FVec Ideal S6x2048x2880 .f32) (b : Fin 6) (n : Fin 2048) (j : Fin 2880) :
    k0_pay2 x (absf x) (ix3 b n j) = Row.refCode (fun k => x (ix3 b n k)) j := by
  rw [pay2_eq, rowCodes_apply, rowInv_apply, rowEx_apply, rowU_apply]; rfl
theorem pay3_apply (x : FVec Ideal S6x2048x2880 .f32) (b : Fin 6) (n : Fin 2048) :
    k0_pay3 (absf x) (ix2 b n) = Row.refScale fun k => x (ix3 b n k) := by
  rw [pay3_eq, rowScales_apply, rowEx_apply, rowU_apply]; rfl

end Cert.ReferenceIdeal.Body

end
-- ==== Proof.Expo.lean ====
/- The kernel's exponent, found by counting powers of two, is the reference's, found by a logarithm: for every row that is
   normalized under a finite gain and bias. -/
module

public import proofs.«01_k».proof.Proof.RefRow
public import Mathlib.Analysis.SpecialFunctions.Log.Basic

@[expose] public section

noncomputable section

namespace Cert.Row

open Idealize.ShloMosaic
open Cert.KernelIdeal.Body (kW kEps)

/-! ## What bit patterns denote -/

/-- A pattern with a clear sign, the exponent field `n` and the fraction `fr`. -/
theorem ofBits_normal (b : BitVec 32) (n fr : ℕ) (hs : (b.extractLsb' 31 1 == 1#1) = false) (he : (b.extractLsb' 23 8).toNat = n)
    (hf : (b.extractLsb' 0 23).toNat = fr) (h0 : n ≠ 0) (h1 : n ≠ 255) :
    Ideal.ofBits .f32 b = (((2 ^ 23 + fr : ℕ) * (2 : ℝ) ^ ((n : ℤ) - 150) : ℝ) : EReal) := by
  show Ideal.ieee 8 23 b = _
  unfold Ideal.ieee
  simp only [Nat.reduceAdd, hs, he, hf]
  rw [if_neg (by simpa using h1), if_neg h0]
  congr 2
  · simp
  · congr 1; push_cast; ring

theorem field_sign : ∀ n : Fin 256, ((BitVec.ofNat 32 n.val <<< 23).extractLsb' 31 1 == 1#1) = false := by decide +kernel
theorem field_exp : ∀ n : Fin 256, ((BitVec.ofNat 32 n.val <<< 23).extractLsb' 23 8).toNat = n.val := by decide +kernel
theorem field_frac : ∀ n : Fin 256, ((BitVec.ofNat 32 n.val <<< 23).extractLsb' 0 23).toNat = 0 := by decide +kernel

/-- The power of two with the exponent field `n`. -/
theorem power (n : ℕ) (h0 : n ≠ 0) (h1 : n < 255) : Ideal.ofBits .f32 (BitVec.ofNat 32 n <<< 23) = (((2 : ℝ) ^ ((n : ℤ) - 127) : ℝ) : EReal) := by
  rw [ofBits_normal _ n 0 (field_sign ⟨n, by omega⟩) (field_exp ⟨n, by omega⟩) (field_frac ⟨n, by omega⟩) h0 (by omega)]
  congr 1
  rw [show (((2 ^ 23 + 0 : ℕ) : ℝ)) = (2 : ℝ) ^ (23 : ℤ) by norm_num, ← zpow_add₀ (by norm_num)]
  congr 1; ring
theorem power_zero : Ideal.ofBits .f32 (BitVec.ofNat 32 0 <<< 23) = 0 := by
  rw [show BitVec.ofNat 32 0 <<< 23 = 0x00000000#32 by decide]; exact Ideal.ofBits_zero_f32
theorem power_top : Ideal.ofBits .f32 (BitVec.ofNat 32 255 <<< 23) = ⊤ := by
  rw [show (BitVec.ofNat 32 255 <<< 23) = 0x7F800000#32 by decide]
  simp [Ideal.ofBits, Ideal.ieee]

theorem tiny_eq : Ideal.ofBits .f32 0x00800000#32 = (((2 : ℝ) ^ (-126 : ℤ) : ℝ) : EReal) := by
  rw [show (0x00800000#32 : BitVec 32) = BitVec.ofNat 32 1 <<< 23 by decide, power 1 (by decide) (by decide)]; norm_num
theorem two_eq : Ideal.ofBits .f32 0x40000000#32 = ((2 : ℝ) : EReal) := by
  rw [show (0x40000000#32 : BitVec 32) = BitVec.ofNat 32 128 <<< 23 by decide, power 128 (by decide) (by decide)]; norm_num
theorem one_eq : Ideal.ofBits .f32 0x3F800000#32 = ((1 : ℝ) : EReal) := by
  rw [show (0x3F800000#32 : BitVec 32) = BitVec.ofNat 32 127 <<< 23 by decide, power 127 (by decide) (by decide)]; norm_num

/-! ## The two exponents -/

theorem card_le : ∀ K : Fin 256, (Finset.univ.filter fun k : Fin 256 => k.val ≤ K.val).card = K.val + 1 := by decide +kernel

/-- The count finds the largest power not above `u`. -/
theorem biased_eq (u : EReal) (K : ℕ) (hK : K < 256) (h : ∀ k : Fin 256, ¬ u < Ideal.ofBits .f32 (BitVec.ofNat 32 k.val <<< 23) ↔ k.val ≤ K) :
    biased u = BitVec.ofNat 32 (K + 1) - 1#32 := by
  unfold biased
  rw [Finset.filter_congr (fun k _ => h k), card_le ⟨K, hK⟩]

theorem expo_zero : expo (BitVec.ofNat 32 (0 + 1) - 1#32) = 0#32 := by decide
theorem expo_scale : ∀ K : Fin 253, K.val ≠ 0 → expo (BitVec.ofNat 32 (K.val + 1) - 1#32) + 127#32 = BitVec.ofNat 32 (K.val + 1) := by decide +kernel
theorem expo_inv : ∀ K : Fin 253, K.val ≠ 0 → 127#32 - expo (BitVec.ofNat 32 (K.val + 1) - 1#32) = BitVec.ofNat 32 (253 - K.val) := by decide +kernel

/-- `exp2` at an integer. -/
theorem exp2_int (k : ℤ) : Ideal.exp2 (((k : ℝ)) : EReal) = (((2 : ℝ) ^ k : ℝ) : EReal) := by
  rw [Ideal.exp2_coe]
  exact congrArg _ (Real.rpow_intCast 2 k)

/-- The integer part of the logarithm to base two. -/
abbrev lg (u : ℝ) : ℤ := ⌊Real.log u / Real.log 2⌋

theorem le_lg (u : ℝ) (hu : 0 < u) (k : ℤ) : (2 : ℝ) ^ k ≤ u ↔ k ≤ lg u := by
  rw [Int.le_floor, le_div_iff₀ (Real.log_pos (by norm_num)), ← Real.log_zpow, Real.log_le_log_iff (by positivity) hu]

/-- Below the smallest normal number both exponents are 0, -/
theorem expo_small (u : ℝ) (h0 : 0 ≤ u) (h1 : u < (2 : ℝ) ^ (-126 : ℤ)) : refExpo u = ((0 : ℤ) : ℝ) ∧ expo (biased u) = 0#32 := by
  constructor
  · unfold refExpo
    rw [tiny_eq, if_pos (EReal.coe_lt_coe_iff.2 h1), Ideal.ofBits_zero_f32]; simp
  · rw [biased_eq _ 0 (by decide), expo_zero]
    intro k
    rw [Nat.le_zero]
    rcases Nat.eq_zero_or_pos k.val with hk | hk
    · rw [hk, power_zero]; simpa using h0
    · refine ⟨fun h => absurd ?_ h, fun h => absurd h (by omega)⟩
      rcases Nat.lt_or_ge k.val 255 with hk' | hk'
      · rw [power _ (by omega) hk', EReal.coe_lt_coe_iff]
        exact h1.trans_le (zpow_le_zpow_right₀ (by norm_num) (by omega))
      · rw [show k.val = 255 by have := k.isLt; omega, power_top]; exact EReal.coe_lt_top _

/-- and from it on both are one more than the logarithm's integer part. -/
theorem expo_normal (u : ℝ) (h1 : (2 : ℝ) ^ (-126 : ℤ) ≤ u) (h2 : u < (2 : ℝ) ^ (126 : ℤ)) :
    ∃ K : Fin 253, K.val ≠ 0 ∧ refExpo u = (((K.val : ℤ) - 126 : ℤ) : ℝ) ∧ biased u = BitVec.ofNat 32 (K.val + 1) - 1#32 := by
  have hu : 0 < u := lt_of_lt_of_le (by positivity) h1
  have hlo : -126 ≤ lg u := (le_lg u hu _).1 h1
  have hhi : lg u < 126 := not_le.1 fun hk => absurd ((le_lg u hu _).2 hk) (not_le.2 h2)
  obtain ⟨K, hK⟩ : ∃ K : ℕ, (K : ℤ) = lg u + 127 := ⟨(lg u + 127).toNat, Int.toNat_of_nonneg (by omega)⟩
  refine ⟨⟨K, by omega⟩, by show K ≠ 0; omega, ?_, biased_eq _ K (by omega) fun k => ?_⟩
  · unfold refExpo
    rw [tiny_eq, if_neg (by rw [EReal.coe_lt_coe_iff]; exact not_lt.2 h1), two_eq, one_eq]
    have hl2 : (Real.log 2) ≠ 0 := (Real.log_pos (by norm_num)).ne'
    have e1 : Ideal.log (u : EReal) = ((Real.log u : ℝ) : EReal) := if_neg (not_le.2 hu)
    have e2 : Ideal.log ((2 : ℝ) : EReal) = ((Real.log 2 : ℝ) : EReal) := if_neg (by norm_num)
    have e3 : Ideal.div ((Real.log u : ℝ) : EReal) ((Real.log 2 : ℝ) : EReal) = ((Real.log u / Real.log 2 : ℝ) : EReal) := by
      unfold Ideal.div
      rw [if_neg (by exact_mod_cast hl2), ← EReal.coe_inv, ← EReal.coe_mul]; rfl
    rw [e1, e2, e3]
    show (((lg u : ℤ) : ℝ) : EReal) + ((1 : ℝ) : EReal) = _
    rw [← EReal.coe_add]
    congr 1
    have : ((K : ℤ) : ℝ) = ((lg u + 127 : ℤ) : ℝ) := by rw [hK]
    push_cast at this ⊢
    linarith
  · rw [not_lt]
    rcases Nat.eq_zero_or_pos k.val with hk | hk
    · rw [hk, power_zero]; simpa using hu.le
    · rcases Nat.lt_or_ge k.val 255 with hk' | hk'
      · rw [power _ (by omega) hk', EReal.coe_le_coe_iff]
        rw [le_lg u hu]; omega
      · rw [show k.val = 255 by have := k.isLt; omega, power_top]
        refine ⟨fun h => absurd h (by simp), fun h => absurd h (by omega)⟩

/-- The scale and the reciprocal scale from the kernel's bits are the reference's powers of two. -/
theorem expo_agree (u : ℝ) (h0 : 0 ≤ u) (h2 : u < (2 : ℝ) ^ (126 : ℤ)) :
    Ideal.exp2 (refExpo u) = Ideal.ofBits .f32 ((expo (biased u) + 127#32) <<< 23)
    ∧ Ideal.exp2 (Ideal.ofBits .f32 0x00000000#32 - refExpo u) = Ideal.ofBits .f32 ((127#32 - expo (biased u)) <<< 23) := by
  rw [Ideal.ofBits_zero_f32]
  have hneg : ∀ k : ℤ, (0 : EReal) - ((k : ℝ) : EReal) = (((-k : ℤ) : ℝ) : EReal) := fun k => by
    rw [zero_sub, ← EReal.coe_neg]; push_cast; rfl
  rcases lt_or_ge u ((2 : ℝ) ^ (-126 : ℤ)) with h1 | h1
  · obtain ⟨hr, hk⟩ := expo_small u h0 h1
    rw [hr, hk, hneg, exp2_int, exp2_int]
    refine ⟨?_, ?_⟩
    · rw [show (0#32 + 127#32 : BitVec 32) = BitVec.ofNat 32 127 by decide, power 127 (by decide) (by decide)]; norm_num
    · rw [show (127#32 - 0#32 : BitVec 32) = BitVec.ofNat 32 127 by decide, power 127 (by decide) (by decide)]; norm_num
  · obtain ⟨K, hK, hr, hk⟩ := expo_normal u h1 h2
    have := K.isLt
    rw [hr, hk, hneg, exp2_int, exp2_int, expo_scale K hK, expo_inv K hK, power _ (by omega) (by omega), power _ (by omega) (by omega)]
    refine ⟨?_, ?_⟩
    · congr 2; push_cast; ring
    · congr 2; push_cast [Nat.cast_sub (show K.val ≤ 253 by omega)]; ring

/-! ## Normalized rows are finite -/

theorem eps_pos : ∃ e : ℝ, 0 < e ∧ kEps = (e : EReal) :=
  ⟨_, by positivity, ofBits_normal 0x358637BD#32 107 407485 (by decide) (by decide) (by decide) (by decide) (by decide)⟩

theorem coe_sum (s : Finset (Fin 2880)) (f : Fin 2880 → ℝ) : (∑ k ∈ s, (f k : EReal)) = ((∑ k ∈ s, f k : ℝ) : EReal) := by
  induction s using Finset.induction_on with
  | empty => simp
  | insert a s ha ih => rw [Finset.sum_insert ha, Finset.sum_insert ha, ih, EReal.coe_add]

/-- A deviation over the standard deviation is at most 54, for it is at most the root of 2880; where a deviation is infinite
    the reciprocal standard deviation is 0, and so is the product. -/
theorem dev_rs (h : Fin 2880 → EReal) (j : Fin 2880) : ∃ p : ℝ, dev h j * rs h = (p : EReal) ∧ |p| ≤ 54 := by
  obtain ⟨e, he, hE⟩ := eps_pos
  by_cases hd : ∃ d : Fin 2880 → ℝ, ∀ k, dev h k = (d k : EReal)
  · obtain ⟨d, hd⟩ := hd
    have hS : (∑ k, dev h k * dev h k) * kW + kEps = (((∑ k, d k * d k) * (1 / 2880) + e : ℝ) : EReal) := by
      simp only [hd, hE, ← EReal.coe_mul]
      rw [coe_sum, ← EReal.coe_mul, ← EReal.coe_add]
    have hS0 : d j * d j ≤ ∑ k, d k * d k := Finset.single_le_sum (f := fun k => d k * d k) (fun k _ => mul_self_nonneg _) (Finset.mem_univ j)
    have hS1 : 0 ≤ d j * d j := mul_self_nonneg _
    set v : ℝ := (∑ k, d k * d k) * (1 / 2880) + e with hv
    have hv0 : 0 < v := by have h0 := hS1.trans hS0; rw [hv]; positivity
    refine ⟨d j * (Real.sqrt v)⁻¹, ?_, ?_⟩
    · unfold rs
      rw [hS, hd, EReal.coe_mul]
      show _ * Ideal.rsqrt (v : EReal) = _
      rw [Ideal.rsqrt_coe, if_neg hv0.not_gt, if_neg hv0.ne']
    · have hs : 0 < Real.sqrt v := Real.sqrt_pos.2 hv0
      rw [abs_mul, abs_inv, abs_of_pos hs, ← div_eq_mul_inv, div_le_iff₀ hs]
      apply abs_le_of_sq_le_sq _ (by positivity)
      rw [mul_pow, Real.sq_sqrt hv0.le, sq]
      nlinarith
  · have : ∃ k, dev h k = ⊤ ∨ dev h k = ⊥ := by
      by_contra hn
      push Not at hn
      exact hd ⟨fun k => (dev h k).toReal, fun k => (EReal.coe_toReal (hn k).1 (hn k).2).symm⟩
    obtain ⟨k, hk⟩ := this
    have hk' : dev h k * dev h k = ⊤ := by rcases hk with hk | hk <;> rw [hk] <;> simp
    have hnn : ∀ k, 0 ≤ dev h k * dev h k := fun k => by
      rcases le_total 0 (dev h k) with h0 | h0
      · exact mul_nonneg h0 h0
      · rw [← neg_mul_neg]; exact mul_nonneg (EReal.neg_nonneg.2 h0) (EReal.neg_nonneg.2 h0)
    have hS : (∑ k, dev h k * dev h k) = ⊤ :=
      top_le_iff.1 (hk' ▸ Finset.single_le_sum (f := fun k => dev h k * dev h k) (fun k _ => hnn k) (Finset.mem_univ k))
    refine ⟨0, ?_, by norm_num⟩
    unfold rs
    rw [hS, EReal.top_mul_coe_of_pos (by norm_num), hE, EReal.top_add_coe]
    show _ * (0 : EReal) = _
    simp

/-- A value that the comparison with the largest finite number admits. -/
theorem finite_of (x : EReal) (h : max x (-x) ≤ Ideal.ofBits .f32 0x7F7FFFFF#32) : ∃ r : ℝ, x = (r : EReal) ∧ |r| ≤ 2 ^ 128 := by
  rw [ofBits_normal 0x7F7FFFFF#32 254 8388607 (by decide) (by decide) (by decide) (by decide) (by decide), max_le_iff] at h
  obtain ⟨h1, h2⟩ := h
  have ht : x ≠ ⊤ := fun e => by rw [e] at h1; exact absurd h1 (not_le.2 (EReal.coe_lt_top _))
  have hb : x ≠ ⊥ := fun e => by rw [e, EReal.neg_bot] at h2; exact absurd h2 (not_le.2 (EReal.coe_lt_top _))
  obtain ⟨r, rfl⟩ : ∃ r : ℝ, x = (r : EReal) := ⟨x.toReal, (EReal.coe_toReal ht hb).symm⟩
  rw [← EReal.coe_neg, EReal.coe_le_coe_iff] at h2
  rw [EReal.coe_le_coe_iff] at h1
  have hc : (((2 ^ 23 + 8388607 : ℕ) : ℝ) * (2 : ℝ) ^ (((254 : ℕ) : ℤ) - 150)) ≤ 2 ^ 128 := by norm_num
  exact ⟨r, rfl, abs_le.2 ⟨by linarith, by linarith⟩⟩

section

variable (h ga nb : Fin 2880 → EReal) (hg : ∀ j, max (ga j) (-ga j) ≤ Ideal.ofBits .f32 0x7F7FFFFF#32)
  (hb : ∀ j, max (nb j) (-nb j) ≤ Ideal.ofBits .f32 0x7F7FFFFF#32)

include hg hb in
theorem nrm_finite (j : Fin 2880) : ∃ y : ℝ, nrm h ga nb j = (y : EReal) ∧ |y| ≤ 55 * 2 ^ 128 := by
  obtain ⟨p, hp, hp'⟩ := dev_rs h j
  obtain ⟨g, hg1, hg2⟩ := finite_of _ (hg j)
  obtain ⟨b, hb1, hb2⟩ := finite_of _ (hb j)
  refine ⟨p * g + b, ?_, ?_⟩
  · unfold nrm
    rw [hp, hg1, hb1, ← EReal.coe_mul, ← EReal.coe_add]
  · have h1 : |p * g| ≤ 54 * 2 ^ 128 := by rw [abs_mul]; exact mul_le_mul hp' hg2 (_root_.abs_nonneg _) (by norm_num)
    have := abs_add_le (p * g) b
    linarith

include hg hb in
theorem amax_finite : ∃ a : ℝ, amax (nrm h ga nb) = (a : EReal) ∧ 0 ≤ a ∧ a ≤ 55 * 2 ^ 128 := by
  have hle : amax (nrm h ga nb) ≤ ((55 * 2 ^ 128 : ℝ) : EReal) := (amax_le _ _).2 fun j => by
    obtain ⟨y, hy, hy'⟩ := nrm_finite h ga nb hg hb j
    rw [hy, ← EReal.coe_neg, max_le_iff, EReal.coe_le_coe_iff, EReal.coe_le_coe_iff]
    exact ⟨(abs_le.1 hy').2, by linarith [(abs_le.1 hy').1]⟩
  have h0 : 0 ≤ amax (nrm h ga nb) := (abs_nonneg _).trans ((amax_le _ _).1 le_rfl 0)
  have ht : amax (nrm h ga nb) ≠ ⊤ := fun e => by rw [e] at hle; exact absurd hle (not_le.2 (EReal.coe_lt_top _))
  have hbt : amax (nrm h ga nb) ≠ ⊥ := fun e => by rw [e] at h0; exact absurd h0 (by simp)
  obtain ⟨a, ha⟩ : ∃ a : ℝ, amax (nrm h ga nb) = (a : EReal) := ⟨_, (EReal.coe_toReal ht hbt).symm⟩
  rw [ha] at hle h0 ⊢
  exact ⟨a, rfl, EReal.coe_nonneg.1 h0, EReal.coe_le_coe_iff.1 hle⟩

include hg hb in
/-- The kernel's codes and scale of a normalized row are the reference's. -/
theorem row_agree : refScale (nrm h ga nb) = scale (nrm h ga nb) ∧ refCode (nrm h ga nb) = code (nrm h ga nb) := by
  obtain ⟨a, ha, ha0, ha1⟩ := amax_finite h ga nb hg hb
  have hc := ofBits_normal 0x3B124925#32 118 1198373 (by decide) (by decide) (by decide) (by decide) (by decide)
  set c : ℝ := ((2 ^ 23 + 1198373 : ℕ) : ℝ) * (2 : ℝ) ^ (((118 : ℕ) : ℤ) - 150) with hcd
  have hc0 : 0 ≤ c := by positivity
  have hc1 : c ≤ 1 / 256 := by rw [hcd]; norm_num
  have hu : amax (nrm h ga nb) * Ideal.ofBits .f32 0x3B124925#32 = ((a * c : ℝ) : EReal) := by rw [ha, hc]; exact (EReal.coe_mul a c).symm
  obtain ⟨h1, h2⟩ := expo_agree (a * c) (by positivity) (lt_of_le_of_lt (mul_le_mul ha1 hc1 hc0 (by norm_num)) (by norm_num))
  rw [← hu] at h1 h2
  refine ⟨h1, funext fun j => ?_⟩
  exact congrArg (fun s : EReal => min _ (max _ (nrm h ga nb j * s))) h2

end

end Cert.Row

end
-- ==== Proof.RefFinal.lean ====
/- The result arrays of the reference, and that they are the kernel's under a finite gain and bias. -/
module

public import proofs.«01_k».proof.Proof.Ref
public import proofs.«01_k».proof.Proof.Expo
public import proofs.«01_k».proof.Proof.Pre
public import Idealize.ShloMosaic.Lib.Pipeline.ValueKit.Geometry

@[expose] public section

set_option maxRecDepth 16384

noncomputable section

namespace Cert.ReferenceIdeal.Body

open Idealize.ShloMosaic Idealize.ShloMosaic.TcCoe Idealize.ShloMosaic.ValueIdx
open Idealize.SL.Sem
open Idealize.ShloMosaic.Pipeline (Dat Cfg Window)
open Cert.ReferenceIdeal.Gen

/-! ## What the body leaves, from the blocks -/

variable (x0 : Vec Ideal S8x6x2048x2880 .fp8e4m3) (x1 : Vec Ideal S8x6x2048 .f32) (x2 : Vec Ideal S2880 .f32)
  (x3 : Vec Ideal S6x2048x2880 .bf16) (x4 : Vec Ideal S2880 .f32) (x5 : Vec Ideal S2880 .f32)

theorem ld0 : View.ld x0 r0_0 = x0 := View.ld_unit_zero (by funext a; fin_cases a <;> rfl) _ _
theorem ld1 : View.ld x1 r0_1 = x1 := View.ld_unit_zero (by funext a; fin_cases a <;> rfl) _ _
theorem ld2 : View.ld x2 r0_2 = x2 := View.ld_unit_zero (by funext a; fin_cases a; rfl) _ _
theorem ld3 : View.ld x3 r0_3 = x3 := View.ld_unit_zero (by funext a; fin_cases a <;> rfl) _ _

theorem out6_eq : out0_6 x0 x1 x2 x3 x4 x5 = k0_pay4 x0 x1 x2 x3 := by
  unfold out0_6
  rw [ld0, ld1, ld2, ld3]
  exact View.canon_unit_zero (by funext a; fin_cases a <;> rfl) _ _
theorem out7_eq : out0_7 x0 x1 x2 x3 x4 x5 = k0_pay2 (k0_pay5 x0 x1 x2 x3 x4 x5) (absf (k0_pay5 x0 x1 x2 x3 x4 x5)) := by
  unfold out0_7 k0_pay7
  rw [ld0, ld1, ld2, ld2, ld2, ld3, pay6_eq]
  exact View.canon_unit_zero (by funext a; fin_cases a <;> rfl) _ _
theorem out8_eq : out0_8 x0 x1 x2 x3 x4 x5 = k0_pay3 (absf (k0_pay5 x0 x1 x2 x3 x4 x5)) := by
  unfold out0_8 k0_pay7
  rw [ld0, ld1, ld2, ld2, ld2, ld3, pay6_eq]
  exact View.canon_unit_zero (by funext a; fin_cases a <;> rfl) _ _

/-- The residuals are the specified ones, -/
theorem out6_spec : out0_6 x0 x1 x2 x3 x4 x5 = Spec.res x0 x1 x2 x3 := by
  rw [out6_eq]
  funext y
  obtain ⟨b, n, j, rfl⟩ : ∃ b n j, y = ix3 b n j := ⟨y 0, y 1, y 2, eq_ix3 y⟩
  exact pay4_apply x0 x1 x2 x3 b n j

section

variable (hg : ∀ j, max (x4 j) (-x4 j : EReal) ≤ Ideal.ofBits .f32 0x7F7FFFFF#32) (hb : ∀ j, max (x5 j) (-x5 j : EReal) ≤ Ideal.ofBits .f32 0x7F7FFFFF#32)

include hg hb in
/-- and so, the gain and the bias being finite, are the codes -/
theorem out7_spec : out0_7 x0 x1 x2 x3 x4 x5 = Spec.codes x0 x1 x2 x3 x4 x5 := by
  rw [out7_eq]
  funext y
  obtain ⟨b, n, j, rfl⟩ : ∃ b n j, y = ix3 b n j := ⟨y 0, y 1, y 2, eq_ix3 y⟩
  refine (pay2_apply _ b n j).trans ?_
  rw [show (fun k => k0_pay5 x0 x1 x2 x3 x4 x5 (ix3 b n k)) = Spec.nrm x0 x1 x2 x3 x4 x5 b n from funext fun k => pay5_apply x0 x1 x2 x3 x4 x5 b n k]
  exact congrFun (Row.row_agree _ _ _ (fun j => hg (ix1 j)) (fun j => hb (ix1 j))).2 j

include hg hb in
/-- and the scales. -/
theorem out8_spec : out0_8 x0 x1 x2 x3 x4 x5 = Spec.scales x0 x1 x2 x3 x4 x5 := by
  rw [out8_eq]
  funext y
  obtain ⟨b, n, rfl⟩ : ∃ b n, y = ix2 b n := ⟨y 0, y 1, eq_ix2 y⟩
  refine (pay3_apply _ b n).trans ?_
  rw [show (fun k => k0_pay5 x0 x1 x2 x3 x4 x5 (ix3 b n k)) = Spec.nrm x0 x1 x2 x3 x4 x5 b n from funext fun k => pay5_apply x0 x1 x2 x3 x4 x5 b n k]
  exact (Row.row_agree _ _ _ (fun j => hg (ix1 j)) (fun j => hb (ix1 j))).1

end

/-! ## The arrays -/

theorem index0 (t : Fin cfg0.N) : win0_0.index t = fun _ => 0 := rfl
theorem index1 (t : Fin cfg0.N) : win0_1.index t = fun _ => 0 := rfl
theorem index2 (t : Fin cfg0.N) : win0_2.index t = fun _ => 0 := rfl
theorem index3 (t : Fin cfg0.N) : win0_3.index t = fun _ => 0 := rfl
theorem index4 (t : Fin cfg0.N) : win0_4.index t = fun _ => 0 := rfl
theorem index5 (t : Fin cfg0.N) : win0_5.index t = fun _ => 0 := rfl
theorem index6 (t : Fin cfg0.N) : win0_6.index t = fun _ => 0 := rfl
theorem index7 (t : Fin cfg0.N) : win0_7.index t = fun _ => 0 := rfl
theorem index8 (t : Fin cfg0.N) : win0_8.index t = fun _ => 0 := rfl

variable (m : (ℓ : Loc nD τ sig) → Buf (Elt Ideal) ℓ) (c : Dev nD)

theorem blk0 (t : Fin cfg0.N) : iblk m c 0 t = m ((c : Thread nD τ).loc main_arg0) := by
  funext x; blk_simp [iblk]; refine congrArg _ ?_; blk_ext [index0]
theorem blk1 (t : Fin cfg0.N) : iblk m c 1 t = m ((c : Thread nD τ).loc main_arg1) := by
  funext x; blk_simp [iblk]; refine congrArg _ ?_; blk_ext [index1]
theorem blk2 (t : Fin cfg0.N) : iblk m c 2 t = m ((c : Thread nD τ).loc main_arg2) := by
  funext x; blk_simp [iblk]; refine congrArg _ ?_; blk_ext [index2]
theorem blk3 (t : Fin cfg0.N) : iblk m c 3 t = m ((c : Thread nD τ).loc main_arg3) := by
  funext x; blk_simp [iblk]; refine congrArg _ ?_; blk_ext [index3]
theorem blk4 (t : Fin cfg0.N) : iblk m c 4 t = m ((c : Thread nD τ).loc main_arg4) := by
  funext x; blk_simp [iblk]; refine congrArg _ ?_; blk_ext [index4]
theorem blk5 (t : Fin cfg0.N) : iblk m c 5 t = m ((c : Thread nD τ).loc main_arg5) := by
  funext x; blk_simp [iblk]; refine congrArg _ ?_; blk_ext [index5]

variable {m c} in
/-- The reference's result arrays after the launch are the specified ones, the gain and the bias being finite. -/
theorem results {r : PUnit × MemSt nD τ sig (Elt Ideal)} (h : Pipeline.FramePost cfgs (dats m) 0 (V m) r) (c : Dev nD)
    (hg : Pre_finite.Bounded (m ((c : Thread nD τ).loc main_arg4)))
    (hb : Pre_finite.Bounded (m ((c : Thread nD τ).loc main_arg5))) :
    r.2.mem ((c.tc : Thread nD τ).loc main_v0_0) = Spec.res (m ((c : Thread nD τ).loc main_arg0)) (m ((c : Thread nD τ).loc main_arg1)) (m ((c : Thread nD τ).loc main_arg2)) (m ((c : Thread nD τ).loc main_arg3))
    ∧ r.2.mem ((c.tc : Thread nD τ).loc main_v0_1) = Spec.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c.tc : Thread nD τ).loc main_v0_2) = Spec.scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ⟨(h.out_eq c 6).trans ?_, (h.out_eq c 7).trans ?_, (h.out_eq c 8).trans ?_⟩
  · refine Dat.arrAt_eq_of_covers _ 6 _ (by decide +kernel) fun t hf y => ?_
    blk_simp
    rw [after0_6, blk0, blk1, blk2, blk3, blk4, blk5, out6_spec _ _ _ _ _ _]
    refine congrArg _ ?_
    blk_ext [index6]
  · refine Dat.arrAt_eq_of_covers _ 7 _ (by decide +kernel) fun t hf y => ?_
    blk_simp
    rw [after0_7, blk0, blk1, blk2, blk3, blk4, blk5, out7_spec _ _ _ _ _ _ hg hb]
    refine congrArg _ ?_
    blk_ext [index7]
  · refine Dat.arrAt_eq_of_covers _ 8 _ (by decide +kernel) fun t hf y => ?_
    blk_simp
    rw [after0_8, blk0, blk1, blk2, blk3, blk4, blk5, out8_spec _ _ _ _ _ _ hg hb]
    refine congrArg _ ?_
    blk_ext [index8]

end Cert.ReferenceIdeal.Body

end
-- ==== Proof.lean ====
/- The proof of the certificate: every claim from its module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Obligation
public import proofs.«01_k».proof.Proof.KObligation
public import proofs.«01_k».proof.Proof.Pre
public import proofs.«01_k».proof.Proof.Final
public import proofs.«01_k».proof.Proof.RefFinal
public import Idealize.ShloMosaic.Adequacy
public import Idealize.ShloMosaic.Init

@[expose] public section

noncomputable section

namespace Cert.Proof

open Idealize.ShloMosaic Idealize.SL.Sem Cert.Kernel

/-- The kernel's code keeps its idealization: the constant named `inv_w` stands for 1/2880. -/
theorem preserved : Cert.preserves_Kernel_KernelIdeal :=
  IdealRules.named_const.statement Cert.KernelIdeal.κ "inv_w" .f32 0x39B60B61#32 ((1 / 2880 : ℝ) : EReal) rfl

/-- On a finite gain and bias, kernel and reference end with the same three results: the combined rows, their codes and
    their scales as `Cert.Spec` states them of the arguments. -/
theorem algebraic : Cert.algebraic_KernelIdeal_ReferenceIdeal_pre_finite := by
  intro m g m' g' hpre hargs
  refine ⟨fun c => Cert.Spec.res (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.codes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.scales (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run _ _ _).mono (fun r h c => ?_) (Cert.KernelIdeal.Body.run_main m g)
    have hr := Cert.KernelIdeal.Body.results h c
    exact ⟨hr.1, hr.2.1, hr.2.2, Cert.KernelIdeal.Body.args_unchanged m h c⟩
  · refine (θ_run _ _ _).mono (fun r h c => ?_)
      (θ_run_and (Cert.ReferenceIdeal.Gen.run_main m' g') (Cert.ReferenceIdeal.Gen.unchanged m' g'))
    obtain ⟨h0, h1, h2, h3, h4, h5⟩ := hargs c
    obtain ⟨hg, hb⟩ := Cert.Pre_finite.bounded _ _ _ _ _ _ (hpre c)
    rw [← h4] at hg
    rw [← h5] at hb
    have hr := Cert.ReferenceIdeal.Body.results h.1 c hg hb
    rw [h0, h1, h2, h3, h4, h5] at hr
    exact ⟨hr.1, hr.2.1, hr.2.2, h.2 c⟩

theorem claim : Cert.Claim := ⟨Cert.Kernel.Gen.facts, Cert.KernelIdeal.Gen.facts, Cert.ReferenceIdeal.Gen.facts, Cert.Pre_finite.Gen.facts,
  fun m ρ _ => Cert.Kernel.Body.frame m ρ, fun m ρ _ => Cert.KernelIdeal.Body.frame m ρ, fun m ρ _ => Cert.KernelIdeal.Body.frame m ρ,
  fun m ρ _ => Cert.ReferenceIdeal.Gen.frame m ρ, fun m ρ _ => Cert.ReferenceIdeal.Gen.frame m ρ, preserved, algebraic⟩

end Cert.Proof

end
